-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_bounded [hKernelIdeal : Cert.KernelIdeal.Facts] [hReferenceIdeal : Cert.ReferenceIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_bounded : Cert.Pre_bounded.Facts),
    quiescent_Kernel (hKernel := hKernel)
    ∧ quiescent_KernelIdeal (hKernelIdeal := hKernelIdeal)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ preserves_Kernel_KernelIdeal
    ∧ algebraic_KernelIdeal_ReferenceIdeal_pre_bounded (hKernelIdeal := hKernelIdeal) (hReferenceIdeal := hReferenceIdeal) (hPre_bounded := hPre_bounded)
-- ==== Pre_bounded.lean ====
abbrev S1x2048x1024 : Shape := ⟨3, ![1, 2048, 1024]⟩
abbrev S1024x1024 : Shape := ⟨2, ![1024, 1024]⟩
abbrev S1024 : Shape := ⟨1, ![1024]⟩
abbrev S_ : Shape := ⟨0, ![]⟩

class Facts : Prop where
  bcast_S_S1x2048x1024 : S_.BroadcastsInDim S1x2048x1024 (![] : Fin 0 → Fin S1x2048x1024.rank)
  bcast_S_S1024x1024 : S_.BroadcastsInDim S1024x1024 (![] : Fin 0 → Fin S1024x1024.rank)
  bcast_S_S1024 : S_.BroadcastsInDim S1024 (![] : Fin 0 → Fin S1024.rank)

variable [Facts]

def fn_part1 {F : FTy → Type} [FloatOps F] (main_arg3 : FVec F S1024x1024 .f32) (main_arg4 : FVec F S1024 .f32) (main_arg5 : FVec F S1024x1024 .f32) (main_v4 : IVec S1x2048x1024 1) (main_v9 : IVec S1024x1024 1) (main_v14 : IVec S1024 1) (main_v16 : IVec S1024x1024 1) : IVec S1x2048x1024 1 × IVec S1024x1024 1 × IVec S1024 1 × IVec S1024x1024 1 × IVec S1024 1 × IVec S1024x1024 1 :=
  let main_cst_6 : FVec F S_ .f32 := constant S_ .f32 0x47C35000#32
  let main_v17 : FVec F S1024x1024 .f32 := broadcastInDim S1024x1024 ![] bcast_S_S1024x1024 main_cst_6
  let main_v18 : IVec S1024x1024 1 := cmpf .ole main_arg3 main_v17
  let main_v19 : IVec S1024x1024 1 := andi main_v16 main_v18
  let main_cst_7 : FVec F S_ .f32 := constant S_ .f32 0xC7C35000#32
  let main_v20 : FVec F S1024 .f32 := broadcastInDim S1024 ![] bcast_S_S1024 main_cst_7
  let main_v21 : IVec S1024 1 := cmpf .oge main_arg4 main_v20
  let main_cst_8 : FVec F S_ .f32 := constant S_ .f32 0x47C35000#32
  let main_v22 : FVec F S1024 .f32 := broadcastInDim S1024 ![] bcast_S_S1024 main_cst_8
  let main_v23 : IVec S1024 1 := cmpf .ole main_arg4 main_v22
  let main_v24 : IVec S1024 1 := andi main_v21 main_v23
  let main_cst_9 : FVec F S_ .f32 := constant S_ .f32 0xFF800000#32
  let main_v25 : FVec F S1024x1024 .f32 := broadcastInDim S1024x1024 ![] bcast_S_S1024x1024 main_cst_9
  let main_v26 : IVec S1024x1024 1 := cmpf .ogt main_arg5 main_v25
  let main_cst_10 : FVec F S_ .f32 := constant S_ .f32 0x7F800000#32
  let main_v27 : FVec F S1024x1024 .f32 := broadcastInDim S1024x1024 ![] bcast_S_S1024x1024 main_cst_10
  let main_v28 : IVec S1024x1024 1 := cmpf .olt main_arg5 main_v27
  let main_v29 : IVec S1024x1024 1 := andi main_v26 main_v28
  (main_v4, main_v9, main_v14, main_v19, main_v24, main_v29)

def fn {F : FTy → Type} [FloatOps F] (main_arg0 : FVec F S1x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S1x2048x1024 1 × IVec S1024x1024 1 × IVec S1024 1 × IVec S1024x1024 1 × IVec S1024 1 × IVec S1024x1024 1 :=
  let main_cst : FVec F S_ .f32 := constant S_ .f32 0xC7C35000#32
  let main_v0 : FVec F S1x2048x1024 .f32 := broadcastInDim S1x2048x1024 ![] bcast_S_S1x2048x1024 main_cst
  let main_v1 : IVec S1x2048x1024 1 := cmpf .oge main_arg0 main_v0
  let main_cst_0 : FVec F S_ .f32 := constant S_ .f32 0x47C35000#32
  let main_v2 : FVec F S1x2048x1024 .f32 := broadcastInDim S1x2048x1024 ![] bcast_S_S1x2048x1024 main_cst_0
  let main_v3 : IVec S1x2048x1024 1 := cmpf .ole main_arg0 main_v2
  let main_v4 : IVec S1x2048x1024 1 := andi main_v1 main_v3
  let main_cst_1 : FVec F S_ .f32 := constant S_ .f32 0xC7C35000#32
  let main_v5 : FVec F S1024x1024 .f32 := broadcastInDim S1024x1024 ![] bcast_S_S1024x1024 main_cst_1
  let main_v6 : IVec S1024x1024 1 := cmpf .oge main_arg1 main_v5
  let main_cst_2 : FVec F S_ .f32 := constant S_ .f32 0x47C35000#32
  let main_v7 : FVec F S1024x1024 .f32 := broadcastInDim S1024x1024 ![] bcast_S_S1024x1024 main_cst_2
  let main_v8 : IVec S1024x1024 1 := cmpf .ole main_arg1 main_v7
  let main_v9 : IVec S1024x1024 1 := andi main_v6 main_v8
  let main_cst_3 : FVec F S_ .f32 := constant S_ .f32 0xC7C35000#32
  let main_v10 : FVec F S1024 .f32 := broadcastInDim S1024 ![] bcast_S_S1024 main_cst_3
  let main_v11 : IVec S1024 1 := cmpf .oge main_arg2 main_v10
  let main_cst_4 : FVec F S_ .f32 := constant S_ .f32 0x47C35000#32
  let main_v12 : FVec F S1024 .f32 := broadcastInDim S1024 ![] bcast_S_S1024 main_cst_4
  let main_v13 : IVec S1024 1 := cmpf .ole main_arg2 main_v12
  let main_v14 : IVec S1024 1 := andi main_v11 main_v13
  let main_cst_5 : FVec F S_ .f32 := constant S_ .f32 0xC7C35000#32
  let main_v15 : FVec F S1024x1024 .f32 := broadcastInDim S1024x1024 ![] bcast_S_S1024x1024 main_cst_5
  let main_v16 : IVec S1024x1024 1 := cmpf .oge main_arg3 main_v15
  fn_part1 (F := F) main_arg3 main_arg4 main_arg5 main_v4 main_v9 main_v14 main_v16
-- ==== Kernel.lean ====
abbrev S1x2048x1024 : Shape := ⟨3, ![1, 2048, 1024]⟩
abbrev S1024x1024 : Shape := ⟨2, ![1024, 1024]⟩
abbrev S1024 : Shape := ⟨1, ![1024]⟩
abbrev S2048x1 : Shape := ⟨2, ![2048, 1]⟩
abbrev S1x2048 : Shape := ⟨2, ![1, 2048]⟩
abbrev S2048x1024 : Shape := ⟨2, ![2048, 1024]⟩
abbrev S16x64x1024 : Shape := ⟨3, ![16, 64, 1024]⟩
abbrev S16x64x1 : Shape := ⟨3, ![16, 64, 1]⟩
abbrev S16x1x64 : Shape := ⟨3, ![16, 1, 64]⟩
abbrev S1x1024 : Shape := ⟨2, ![1, 1024]⟩
abbrev S4x64x1024 : Shape := ⟨3, ![4, 64, 1024]⟩
abbrev S4x64x1 : Shape := ⟨3, ![4, 64, 1]⟩
abbrev S4x1x64 : Shape := ⟨3, ![4, 1, 64]⟩
abbrev S1024x256 : Shape := ⟨2, ![1024, 256]⟩
abbrev S1x64x1024 : Shape := ⟨3, ![1, 64, 1024]⟩
abbrev S64x1024 : Shape := ⟨2, ![64, 1024]⟩
abbrev S128x1024 : Shape := ⟨2, ![128, 1024]⟩
abbrev S1x64x1 : Shape := ⟨3, ![1, 64, 1]⟩
abbrev S64x1 : Shape := ⟨2, ![64, 1]⟩
abbrev S128x1 : Shape := ⟨2, ![128, 1]⟩
abbrev S128x2048 : Shape := ⟨2, ![128, 2048]⟩
abbrev S64x2048 : Shape := ⟨2, ![64, 2048]⟩
abbrev S65x2048 : Shape := ⟨2, ![65, 2048]⟩
abbrev S65x1024 : Shape := ⟨2, ![65, 1024]⟩
abbrev S2048 : Shape := ⟨1, ![2048]⟩
abbrev S1x2048x1 : Shape := ⟨3, ![1, 2048, 1]⟩
abbrev S1 : Shape := ⟨1, ![1]⟩
abbrev S1x1x1 : Shape := ⟨3, ![1, 1, 1]⟩
abbrev S1x1x2048 : Shape := ⟨3, ![1, 1, 2048]⟩
abbrev S1x64 : Shape := ⟨2, ![1, 64]⟩
abbrev S1x1x64 : Shape := ⟨3, ![1, 1, 64]⟩
abbrev S1x256 : Shape := ⟨2, ![1, 256]⟩

abbrev nBuf : Space → Nat
  | .hbm => 20
  | .vmem => 20
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S2048x1, .f32⟩
  | .hbm, ⟨10, _⟩ => ⟨S1x2048, .f32⟩
  | .hbm, ⟨11, _⟩ => ⟨S2048x1024, .f32⟩
  | .hbm, ⟨12, _⟩ => ⟨S16x64x1024, .f32⟩
  | .hbm, ⟨13, _⟩ => ⟨S16x64x1024, .f32⟩
  | .hbm, ⟨14, _⟩ => ⟨S16x64x1024, .f32⟩
  | .hbm, ⟨15, _⟩ => ⟨S16x64x1, .f32⟩
  | .hbm, ⟨16, _⟩ => ⟨S16x64x1, .f32⟩
  | .hbm, ⟨17, _⟩ => ⟨S16x1x64, .f32⟩
  | .hbm, ⟨18, _⟩ => ⟨S1x1024, .f32⟩
  | .hbm, ⟨19, _⟩ => ⟨S2048x1024, .f32⟩
  | .local _ .vmem, ⟨0, _⟩ => ⟨S2048x1024, .f32⟩
  | .local _ .vmem, ⟨1, _⟩ => ⟨S4x64x1024, .f32⟩
  | .local _ .vmem, ⟨2, _⟩ => ⟨S4x64x1024, .f32⟩
  | .local _ .vmem, ⟨3, _⟩ => ⟨S4x64x1024, .f32⟩
  | .local _ .vmem, ⟨4, _⟩ => ⟨S4x64x1024, .f32⟩
  | .local _ .vmem, ⟨5, _⟩ => ⟨S4x64x1024, .f32⟩
  | .local _ .vmem, ⟨6, _⟩ => ⟨S4x64x1024, .f32⟩
  | .local _ .vmem, ⟨7, _⟩ => ⟨S4x64x1, .f32⟩
  | .local _ .vmem, ⟨8, _⟩ => ⟨S4x64x1, .f32⟩
  | .local _ .vmem, ⟨9, _⟩ => ⟨S4x64x1, .f32⟩
  | .local _ .vmem, ⟨10, _⟩ => ⟨S4x64x1, .f32⟩
  | .local _ .vmem, ⟨11, _⟩ => ⟨S4x1x64, .f32⟩
  | .local _ .vmem, ⟨12, _⟩ => ⟨S4x1x64, .f32⟩
  | .local _ .vmem, ⟨13, _⟩ => ⟨S2048x1, .f32⟩
  | .local _ .vmem, ⟨14, _⟩ => ⟨S1x2048, .f32⟩
  | .local _ .vmem, ⟨15, _⟩ => ⟨S1024x256, .f32⟩
  | .local _ .vmem, ⟨16, _⟩ => ⟨S1024x256, .f32⟩
  | .local _ .vmem, ⟨17, _⟩ => ⟨S1x1024, .f32⟩
  | .local _ .vmem, ⟨18, _⟩ => ⟨S2048x1024, .f32⟩
  | .local _ .vmem, ⟨19, _⟩ => ⟨S1x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_scratch0 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v297 : BitVec 1 := Scalar.cmpi .eq arg0 c3_i32
  let v298 : BitVec 32 := Scalar.extui v297
  let c0_i32_159 : BitVec 32 := 0#32
  let v299 : BitVec 1 := Scalar.cmpi .ne v298 c0_i32_159
  v299

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x64x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x64x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x1x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2048x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S1x2048x1024 : Shape := ⟨3, ![1, 2048, 1024]⟩
abbrev S1024x1024 : Shape := ⟨2, ![1024, 1024]⟩
abbrev S1024 : Shape := ⟨1, ![1024]⟩
abbrev S4096 : Shape := ⟨1, ![4096]⟩
abbrev S1x1x1024 : Shape := ⟨3, ![1, 1, 1024]⟩
abbrev S1x2048x16x64 : Shape := ⟨4, ![1, 2048, 16, 64]⟩
abbrev S1x16x2048x64 : Shape := ⟨4, ![1, 16, 2048, 64]⟩
abbrev S_ : Shape := ⟨0, ![]⟩
abbrev S4096x1 : Shape := ⟨2, ![4096, 1]⟩
abbrev S1x16x4096x64 : Shape := ⟨4, ![1, 16, 4096, 64]⟩
abbrev S1x16x2048x4096 : Shape := ⟨4, ![1, 16, 2048, 4096]⟩
abbrev S1x16x2048 : Shape := ⟨3, ![1, 16, 2048]⟩
abbrev S1x16 : Shape := ⟨2, ![1, 16]⟩
abbrev S1x16x1 : Shape := ⟨3, ![1, 16, 1]⟩
abbrev S1 : Shape := ⟨1, ![1]⟩
abbrev S1x1x1 : Shape := ⟨3, ![1, 1, 1]⟩
abbrev S16 : Shape := ⟨1, ![16]⟩
abbrev S1x16x1x1 : Shape := ⟨4, ![1, 16, 1, 1]⟩
abbrev S1x16x1x3 : Shape := ⟨4, ![1, 16, 1, 3]⟩
abbrev S1x16x1x64 : Shape := ⟨4, ![1, 16, 1, 64]⟩
abbrev S1x16x1x2048 : Shape := ⟨4, ![1, 16, 1, 2048]⟩
abbrev S2048x1024 : Shape := ⟨2, ![2048, 1024]⟩

abbrev nBuf : Space → Nat
  | .hbm => 117
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4096, .i32⟩
  | .hbm, ⟨10, _⟩ => ⟨S1024x1024, .f32⟩
  | .hbm, ⟨11, _⟩ => ⟨S1x2048x1024, .f32⟩
  | .hbm, ⟨12, _⟩ => ⟨S1x1x1024, .f32⟩
  | .hbm, ⟨13, _⟩ => ⟨S1x2048x1024, .f32⟩
  | .hbm, ⟨14, _⟩ => ⟨S1x2048x1024, .f32⟩
  | .hbm, ⟨15, _⟩ => ⟨S1x2048x16x64, .f32⟩
  | .hbm, ⟨16, _⟩ => ⟨S1x16x2048x64, .f32⟩
  | .hbm, ⟨17, _⟩ => ⟨S1024x1024, .f32⟩
  | .hbm, ⟨18, _⟩ => ⟨S1x2048x1024, .f32⟩
  | .hbm, ⟨19, _⟩ => ⟨S1x1x1024, .f32⟩
  | .hbm, ⟨20, _⟩ => ⟨S1x2048x1024, .f32⟩
  | .hbm, ⟨21, _⟩ => ⟨S1x2048x1024, .f32⟩
  | .hbm, ⟨22, _⟩ => ⟨S1x2048x16x64, .f32⟩
  | .hbm, ⟨23, _⟩ => ⟨S1x16x2048x64, .f32⟩
  | .hbm, ⟨24, _⟩ => ⟨S1024x1024, .f32⟩
  | .hbm, ⟨25, _⟩ => ⟨S1x2048x1024, .f32⟩
  | .hbm, ⟨26, _⟩ => ⟨S1x1x1024, .f32⟩
  | .hbm, ⟨27, _⟩ => ⟨S1x2048x1024, .f32⟩
  | .hbm, ⟨28, _⟩ => ⟨S1x2048x1024, .f32⟩
  | .hbm, ⟨29, _⟩ => ⟨S1x2048x16x64, .f32⟩
  | .hbm, ⟨30, _⟩ => ⟨S1x16x2048x64, .f32⟩
  | .hbm, ⟨31, _⟩ => ⟨S_, .i32⟩
  | .hbm, ⟨32, _⟩ => ⟨S4096, .i32⟩
  | .hbm, ⟨33, _⟩ => ⟨S4096, .i1⟩
  | .hbm, ⟨34, _⟩ => ⟨S_, .i32⟩
  | .hbm, ⟨35, _⟩ => ⟨S4096, .i32⟩
  | .hbm, ⟨36, _⟩ => ⟨S4096, .i32⟩
  | .hbm, ⟨37, _⟩ => ⟨S4096, .i32⟩
  | .hbm, ⟨38, _⟩ => ⟨S4096x1, .i32⟩
  | .hbm, ⟨39, _⟩ => ⟨S1x16x4096x64, .f32⟩
  | .hbm, ⟨40, _⟩ => ⟨S1x16x2048x4096, .f32⟩
  | .hbm, ⟨41, _⟩ => ⟨S_, .f32⟩
  | .hbm, ⟨42, _⟩ => ⟨S1x16x2048x4096, .f32⟩
  | .hbm, ⟨43, _⟩ => ⟨S1x16x2048x4096, .f32⟩
  | .hbm, ⟨44, _⟩ => ⟨S_, .f32⟩
  | .hbm, ⟨45, _⟩ => ⟨S1x16x2048, .f32⟩
  | .hbm, ⟨46, _⟩ => ⟨S_, .f32⟩
  | .hbm, ⟨47, _⟩ => ⟨S1x16x2048, .f32⟩
  | .hbm, ⟨48, _⟩ => ⟨S_, .f32⟩
  | .hbm, ⟨49, _⟩ => ⟨S1x16x2048, .f32⟩
  | .hbm, ⟨50, _⟩ => ⟨S1x16x2048, .f32⟩
  | .hbm, ⟨51, _⟩ => ⟨S1x16x2048, .f32⟩
  | .hbm, ⟨52, _⟩ => ⟨S1x16x2048, .i32⟩
  | .hbm, ⟨53, _⟩ => ⟨S_, .f32⟩
  | .hbm, ⟨54, _⟩ => ⟨S_, .i32⟩
  | .hbm, ⟨55, _⟩ => ⟨S1x16, .f32⟩
  | .hbm, ⟨56, _⟩ => ⟨S1x16, .i32⟩
  | .hbm, ⟨57, _⟩ => ⟨S1x16x1, .i32⟩
  | .hbm, ⟨58, _⟩ => ⟨S1, .i32⟩
  | .hbm, ⟨59, _⟩ => ⟨S1x1x1, .i32⟩
  | .hbm, ⟨60, _⟩ => ⟨S16, .i32⟩
  | .hbm, ⟨61, _⟩ => ⟨S1x16x1, .i32⟩
  | .hbm, ⟨62, _⟩ => ⟨S_, .i32⟩
  | .hbm, ⟨63, _⟩ => ⟨S1x1x1, .i32⟩
  | .hbm, ⟨64, _⟩ => ⟨S1x1x1, .i1⟩
  | .hbm, ⟨65, _⟩ => ⟨S_, .i32⟩
  | .hbm, ⟨66, _⟩ => ⟨S1x1x1, .i32⟩
  | .hbm, ⟨67, _⟩ => ⟨S1x1x1, .i32⟩
  | .hbm, ⟨68, _⟩ => ⟨S1x1x1, .i32⟩
  | .hbm, ⟨69, _⟩ => ⟨S_, .i32⟩
  | .hbm, ⟨70, _⟩ => ⟨S1x16x1, .i32⟩
  | .hbm, ⟨71, _⟩ => ⟨S1x16x1, .i1⟩
  | .hbm, ⟨72, _⟩ => ⟨S_, .i32⟩
  | .hbm, ⟨73, _⟩ => ⟨S1x16x1, .i32⟩
  | .hbm, ⟨74, _⟩ => ⟨S1x16x1, .i32⟩
  | .hbm, ⟨75, _⟩ => ⟨S1x16x1, .i32⟩
  | .hbm, ⟨76, _⟩ => ⟨S_, .i32⟩
  | .hbm, ⟨77, _⟩ => ⟨S1x16x1, .i32⟩
  | .hbm, ⟨78, _⟩ => ⟨S1x16x1, .i1⟩
  | .hbm, ⟨79, _⟩ => ⟨S_, .i32⟩
  | .hbm, ⟨80, _⟩ => ⟨S1x16x1, .i32⟩
  | .hbm, ⟨81, _⟩ => ⟨S1x16x1, .i32⟩
  | .hbm, ⟨82, _⟩ => ⟨S1x16x1, .i32⟩
  | .hbm, ⟨83, _⟩ => ⟨S1x16x1, .i32⟩
  | .hbm, ⟨84, _⟩ => ⟨S1x16x1x1, .i32⟩
  | .hbm, ⟨85, _⟩ => ⟨S1x16x1x1, .i32⟩
  | .hbm, ⟨86, _⟩ => ⟨S1x16x1x1, .i32⟩
  | .hbm, ⟨87, _⟩ => ⟨S1x16x1x3, .i32⟩
  | .hbm, ⟨88, _⟩ => ⟨S1x16x1x64, .f32⟩
  | .hbm, ⟨89, _⟩ => ⟨S1x16x1x2048, .f32⟩
  | .hbm, ⟨90, _⟩ => ⟨S_, .f32⟩
  | .hbm, ⟨91, _⟩ => ⟨S1x16x1x2048, .f32⟩
  | .hbm, ⟨92, _⟩ => ⟨S1x16x1x2048, .f32⟩
  | .hbm, ⟨93, _⟩ => ⟨S_, .f32⟩
  | .hbm, ⟨94, _⟩ => ⟨S1x16x1, .f32⟩
  | .hbm, ⟨95, _⟩ => ⟨S_, .f32⟩
  | .hbm, ⟨96, _⟩ => ⟨S1x16x1, .f32⟩
  | .hbm, ⟨97, _⟩ => ⟨S1x16x1, .f32⟩
  | .hbm, ⟨98, _⟩ => ⟨S1x16x1x1, .f32⟩
  | .hbm, ⟨99, _⟩ => ⟨S1x16x1x2048, .f32⟩
  | .hbm, ⟨100, _⟩ => ⟨S1x16x1x2048, .f32⟩
  | .hbm, ⟨101, _⟩ => ⟨S1x16x1x2048, .f32⟩
  | .hbm, ⟨102, _⟩ => ⟨S_, .f32⟩
  | .hbm, ⟨103, _⟩ => ⟨S1x16x1, .f32⟩
  | .hbm, ⟨104, _⟩ => ⟨S1x16x1x1, .f32⟩
  | .hbm, ⟨105, _⟩ => ⟨S1x16x1x2048, .f32⟩
  | .hbm, ⟨106, _⟩ => ⟨S1x16x1x2048, .f32⟩
  | .hbm, ⟨107, _⟩ => ⟨S1x16x1x64, .f32⟩
  | .hbm, ⟨108, _⟩ => ⟨S1x16x2048x64, .f32⟩
  | .hbm, ⟨109, _⟩ => ⟨S1x2048x16x64, .f32⟩
  | .hbm, ⟨110, _⟩ => ⟨S1x2048x1024, .f32⟩
  | .hbm, ⟨111, _⟩ => ⟨S1024x1024, .f32⟩
  | .hbm, ⟨112, _⟩ => ⟨S1x2048x1024, .f32⟩
  | .hbm, ⟨113, _⟩ => ⟨S1x1x1024, .f32⟩
  | .hbm, ⟨114, _⟩ => ⟨S1x2048x1024, .f32⟩
  | .hbm, ⟨115, _⟩ => ⟨S1x2048x1024, .f32⟩
  | .hbm, ⟨116, _⟩ => ⟨S2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_0 : Ref sig .tc := ⟨.hbm, 31, rfl⟩
abbrev main_v21 : Ref sig .tc := ⟨.hbm, 32, rfl⟩
abbrev main_v22 : Ref sig .tc := ⟨.hbm, 33, rfl⟩
abbrev main_c_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_call0_v0 : Ref sig .tc := ⟨.hbm, 52, rfl⟩
abbrev main_call0_cst : Ref sig .tc := ⟨.hbm, 53, rfl⟩
abbrev main_call0_c : Ref sig .tc := ⟨.hbm, 54, rfl⟩
abbrev main_call0_v1_0 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_5 : Ref sig .tc := ⟨.hbm, 62, rfl⟩
abbrev main_v42 : Ref sig .tc := ⟨.hbm, 63, rfl⟩
abbrev main_v43 : Ref sig .tc := ⟨.hbm, 64, rfl⟩
abbrev main_c_6 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_7 : Ref sig .tc := ⟨.hbm, 69, rfl⟩
abbrev main_v47 : Ref sig .tc := ⟨.hbm, 70, rfl⟩
abbrev main_v48 : Ref sig .tc := ⟨.hbm, 71, rfl⟩
abbrev main_c_8 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_9 : Ref sig .tc := ⟨.hbm, 76, rfl⟩
abbrev main_v52 : Ref sig .tc := ⟨.hbm, 77, rfl⟩
abbrev main_v53 : Ref sig .tc := ⟨.hbm, 78, rfl⟩
abbrev main_c_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_11 : Ref sig .tc := ⟨.hbm, 90, rfl⟩
abbrev main_v64 : Ref sig .tc := ⟨.hbm, 91, rfl⟩
abbrev main_v65 : Ref sig .tc := ⟨.hbm, 92, rfl⟩
abbrev main_cst_12 : Ref sig .tc := ⟨.hbm, 93, rfl⟩
abbrev main_v66 : Ref sig .tc := ⟨.hbm, 94, rfl⟩
abbrev main_cst_13 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_14 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩

abbrev nD : Nat := 1
abbrev τ : Topo := Topo.v7x

variable {F : FTy → Type} [FloatOps F]
-- ==== Proof.Reals.lean ====
/-
  Real arithmetic inside the extended reals: sums, maxima, quotients and exponentials of real values, the values of the
  constants both programs use, and the first position of a largest entry.
-/
module

public import Idealize.ShloMosaic.PureOps.Ideal
public import Idealize.ShloMosaic.PureOps

@[expose] public section

noncomputable section

namespace Cert.Reals

open Idealize.ShloMosaic
open scoped BigOperators

/-- A finite sum of real values is the value of the real sum. -/
theorem sum_coe {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A sum of products of real values is the value of the real sum of products. -/
theorem dot_coe {ι : Type*} [Fintype ι] (f g : ι → ℝ) :
    (∑ i, ((f i : ℝ) : EReal) * ((g i : ℝ) : EReal)) = ((∑ i, f i * g i : ℝ) : EReal) := by
  rw [← sum_coe]; exact Finset.sum_congr rfl fun i _ => (EReal.coe_mul _ _).symm

/-- The largest value of a family over a nonempty finite type. -/
def top {ι : Type*} [Fintype ι] [Nonempty ι] (f : ι → ℝ) : ℝ := Finset.univ.sup' Finset.univ_nonempty f

theorem le_top {ι : Type*} [Fintype ι] [Nonempty ι] (f : ι → ℝ) (i : ι) : f i ≤ top f :=
  Finset.le_sup' f (Finset.mem_univ i)

theorem exists_top {ι : Type*} [Fintype ι] [Nonempty ι] (f : ι → ℝ) : ∃ i, f i = top f := by
  obtain ⟨i, -, h⟩ := Finset.exists_mem_eq_sup' (Finset.univ_nonempty (α := ι)) f
  exact ⟨i, h.symm⟩

/-- A number that bounds a family and is one of its values is its largest value. -/
theorem eq_top {ι : Type*} [Fintype ι] [Nonempty ι] (f : ι → ℝ) (y : ℝ) (h : ∀ i, f i ≤ y) (i : ι) (hi : f i = y) :
    top f = y :=
  le_antisymm (Finset.sup'_le _ _ fun j _ => h j) (hi ▸ le_top f i)

/-- The running maximum of real values from minus infinity is the largest of them. -/
theorem fold_max_coe {ι : Type*} [Fintype ι] [Nonempty ι] (f : ι → ℝ) :
    (Finset.univ : Finset ι).fold max (⊥ : EReal) (fun i => ((f i : ℝ) : EReal)) = ((top f : ℝ) : EReal) := by
  have e : (Finset.univ : Finset ι).fold max (⊥ : EReal) (fun i => ((f i : ℝ) : EReal))
      = (Finset.univ : Finset ι).sup fun i => ((f i : ℝ) : EReal) := rfl
  rw [e]
  apply le_antisymm
  · exact Finset.sup_le fun i _ => EReal.coe_le_coe_iff.mpr (le_top f i)
  · obtain ⟨i, hi⟩ := exists_top f
    rw [← hi]
    exact Finset.le_sup (f := fun i => ((f i : ℝ) : EReal)) (Finset.mem_univ i)

/-- The larger of two real values. -/
theorem max_coe (x y : ℝ) : max (x : EReal) (y : EReal) = ((max x y : ℝ) : EReal) :=
  (EReal.coe_strictMono.monotone.map_max).symm

/-- A quotient of real values by a number other than zero. -/
theorem div_coe (x y : ℝ) (h : y ≠ 0) : Ideal.div (x : EReal) (y : EReal) = ((x / y : ℝ) : EReal) := by
  rw [Ideal.div_coe h, ← EReal.coe_mul, mul_one_div]

theorem ofBits_negInf : Ideal.ofBits .f32 0xFF800000#32 = ⊥ := by simp [Ideal.ofBits, Ideal.ieee]
theorem ofBits_eight : Ideal.ofBits .f32 0x41000000#32 = ((8 : ℝ) : EReal) := by
  simp [Ideal.ofBits, Ideal.ieee, -EReal.coe_mul]; norm_num
theorem ofBits_eighth : Ideal.ofBits .f32 0x3E000000#32 = ((1 / 8 : ℝ) : EReal) := by
  simp [Ideal.ofBits, Ideal.ieee, -EReal.coe_mul]; norm_num
theorem ofBits_4096 : Ideal.ofBits .f32 0x45800000#32 = ((4096 : ℝ) : EReal) := by
  simp [Ideal.ofBits, Ideal.ieee, -EReal.coe_mul]; norm_num
theorem ofBits_lo : Ideal.ofBits .f32 0xC7C35000#32 = ((-100000 : ℝ) : EReal) := by
  simp [Ideal.ofBits, Ideal.ieee, -EReal.coe_mul, -EReal.coe_neg]; norm_num
theorem ofBits_hi : Ideal.ofBits .f32 0x47C35000#32 = ((100000 : ℝ) : EReal) := by
  simp [Ideal.ofBits, Ideal.ieee, -EReal.coe_mul]; norm_num

/-- The value of the constant that masks a key out. -/
theorem ofBits_mask : ∃ r : ℝ, Ideal.ofBits .f32 0xF149F2CA#32 = (r : EReal) ∧ r ≤ -(9 * 10 ^ 29) :=
  ⟨_, by simp [Ideal.ofBits, Ideal.ieee, -EReal.coe_mul, -EReal.coe_neg]; rfl, by norm_num⟩

/-- `u` is the first position at which `f` is largest. -/
def IsFirst {n : ℕ} (f : Fin n → ℝ) (u : Fin n) : Prop := (∀ j, f j ≤ f u) ∧ ∀ j, f j = f u → u ≤ j

/-- The first position of a largest entry is unique. -/
theorem IsFirst.unique {n : ℕ} {f : Fin n → ℝ} {u v : Fin n} (hu : IsFirst f u) (hv : IsFirst f v) : u = v := by
  have e : f u = f v := le_antisymm (hv.1 u) (hu.1 v)
  exact le_antisymm (hu.2 v e.symm) (hv.2 u e)

/-- Scaling by a positive number does not move the first largest entry. -/
theorem IsFirst.scale {n : ℕ} {f g : Fin n → ℝ} {u : Fin n} (c : ℝ) (hc : 0 < c) (hg : ∀ j, g j = f j * c)
    (hu : IsFirst f u) : IsFirst g u := by
  refine ⟨fun j => ?_, fun j e => hu.2 j ?_⟩
  · rw [hg, hg]; exact mul_le_mul_of_nonneg_right (hu.1 j) hc.le
  · rw [hg, hg] at e; exact mul_right_cancel₀ hc.ne' e

/-- There is a first position of a largest entry. -/
theorem exists_isFirst {n : ℕ} [NeZero n] (f : Fin n → ℝ) : ∃ u, IsFirst f u := by
  classical
  haveI : Nonempty (Fin n) := ⟨0⟩
  obtain ⟨i, hi⟩ := exists_top f
  have hne : (Finset.univ.filter fun j => f j = top f).Nonempty := ⟨i, by simp [hi]⟩
  refine ⟨(Finset.univ.filter fun j => f j = top f).min' hne, ?_, ?_⟩
  · intro j
    have := Finset.min'_mem _ hne
    rw [Finset.mem_filter] at this
    rw [this.2]; exact le_top f j
  · intro j e
    have := Finset.min'_mem _ hne
    rw [Finset.mem_filter] at this
    exact Finset.min'_le _ _ (by rw [Finset.mem_filter]; exact ⟨Finset.mem_univ _, e.trans this.2⟩)

end Cert.Reals
-- ==== Proof.Bounded.lean ====
/-
  The precondition read back: every entry of the sequence and of the query and
  key layers is a real number of absolute value at most 100000, and every value weight is a real number.
-/
module

public import proofs.«01_k».proof.Pre_bounded
public import proofs.«01_k».proof.Proof.Reals

@[expose] public section

set_option maxRecDepth 16384

noncomputable section

namespace Cert.Bounded

open Idealize.ShloMosaic Cert.Reals Cert.Pre_bounded

/-- The predicate's stated side conditions hold. -/
theorem facts : Cert.Pre_bounded.Facts where
  bcast_S_S1x2048x1024 := by decide
  bcast_S_S1024x1024 := by decide
  bcast_S_S1024 := by decide

/-- An extended real the two comparisons accept is a real number between the bounds. -/
theorem real_of_masks (v : EReal)
    (h : IntOp.andi (Ideal.cmp .oge v (Ideal.ofBits .f32 0xC7C35000#32)) (Ideal.cmp .ole v (Ideal.ofBits .f32 0x47C35000#32)) = 1#1) :
    ∃ r : ℝ, v = (r : EReal) ∧ |r| ≤ 100000 := by
  have andi_one (a b : BitVec 1) : IntOp.andi a b = 1#1 ↔ a = 1#1 ∧ b = 1#1 := by revert a b; decide
  have one (p : Prop) [Decidable p] : BitVec.ofBool (decide p) = 1#1 ↔ p := by by_cases hp : p <;> simp [hp]
  rw [andi_one, ofBits_lo, ofBits_hi] at h
  obtain ⟨h0, h1⟩ := h
  have g0 : ((-100000 : ℝ) : EReal) ≤ v := (one _).mp h0
  have g1 : v ≤ ((100000 : ℝ) : EReal) := (one _).mp h1
  induction v with
  | bot => exact absurd g0 (by simp)
  | top => exact absurd g1 (by simp)
  | coe r => exact ⟨r, rfl, abs_le.mpr ⟨EReal.coe_le_coe_iff.mp g0, EReal.coe_le_coe_iff.mp g1⟩⟩

/-- An array of accepted entries is an array of reals between the bounds. -/
theorem reals_of_mask {s : Shape} (x : FVec Ideal s .f32) (lo hi : S_.BroadcastsInDim s (![] : Fin 0 → Fin s.rank))
    (h : andi (cmpf .oge x (broadcastInDim s ![] lo (constant (F := Ideal) S_ .f32 0xC7C35000#32)))
      (cmpf .ole x (broadcastInDim s ![] hi (constant (F := Ideal) S_ .f32 0x47C35000#32))) = fun _ => 1#1) :
    ∃ R : s.Idx → ℝ, (∀ i, x i = ((R i : ℝ) : EReal)) ∧ ∀ i, |R i| ≤ 100000 := by
  have key (i : s.Idx) : ∃ r : ℝ, x i = (r : EReal) ∧ |r| ≤ 100000 := real_of_masks (x i) (congrFun h i)
  exact ⟨fun i => (key i).choose, fun i => (key i).choose_spec.1, fun i => (key i).choose_spec.2⟩

/-- An extended real strictly between the infinities is a real number. -/
theorem real_of_finite (v : EReal)
    (h : IntOp.andi (Ideal.cmp .ogt v (Ideal.ofBits .f32 0xFF800000#32)) (Ideal.cmp .olt v (Ideal.ofBits .f32 0x7F800000#32)) = 1#1) :
    ∃ r : ℝ, v = (r : EReal) := by
  have andi_one (a b : BitVec 1) : IntOp.andi a b = 1#1 ↔ a = 1#1 ∧ b = 1#1 := by revert a b; decide
  have one (p : Prop) [Decidable p] : BitVec.ofBool (decide p) = 1#1 ↔ p := by by_cases hp : p <;> simp [hp]
  have inf : Ideal.ofBits .f32 0x7F800000#32 = ⊤ := by simp [Ideal.ofBits, Ideal.ieee]
  rw [andi_one, ofBits_negInf, inf] at h
  exact ⟨v.toReal, (EReal.coe_toReal ((one _).mp h.2).ne ((one _).mp h.1).ne').symm⟩

/-- An array of entries strictly between the infinities is an array of reals. -/
theorem reals_of_finite {s : Shape} (x : FVec Ideal s .f32) (lo hi : S_.BroadcastsInDim s (![] : Fin 0 → Fin s.rank))
    (h : andi (cmpf .ogt x (broadcastInDim s ![] lo (constant (F := Ideal) S_ .f32 0xFF800000#32)))
      (cmpf .olt x (broadcastInDim s ![] hi (constant (F := Ideal) S_ .f32 0x7F800000#32))) = fun _ => 1#1) :
    ∃ R : s.Idx → ℝ, ∀ i, x i = ((R i : ℝ) : EReal) := by
  have key (i : s.Idx) : ∃ r : ℝ, x i = (r : EReal) := real_of_finite (x i) (congrFun h i)
  exact ⟨fun i => (key i).choose, fun i => (key i).choose_spec⟩

/-- What the precondition says of the nine arguments. -/
theorem reals [Cert.Pre_bounded.Facts] (a0 : FVec Ideal S1x2048x1024 .f32) (a1 a3 a5 a7 : FVec Ideal S1024x1024 .f32)
    (a2 a4 a6 a8 : FVec Ideal S1024 .f32)
    (h : (fn (F := Ideal) a0 a1 a2 a3 a4 a5 a6 a7 a8).1 = (fun _ => 1#1)
      ∧ (fn (F := Ideal) a0 a1 a2 a3 a4 a5 a6 a7 a8).2.1 = (fun _ => 1#1)
      ∧ (fn (F := Ideal) a0 a1 a2 a3 a4 a5 a6 a7 a8).2.2.1 = (fun _ => 1#1)
      ∧ (fn (F := Ideal) a0 a1 a2 a3 a4 a5 a6 a7 a8).2.2.2.1 = (fun _ => 1#1)
      ∧ (fn (F := Ideal) a0 a1 a2 a3 a4 a5 a6 a7 a8).2.2.2.2.1 = (fun _ => 1#1)
      ∧ (fn (F := Ideal) a0 a1 a2 a3 a4 a5 a6 a7 a8).2.2.2.2.2 = (fun _ => 1#1)) :
    (∃ R : S1x2048x1024.Idx → ℝ, (∀ i, a0 i = ((R i : ℝ) : EReal)) ∧ ∀ i, |R i| ≤ 100000)
    ∧ (∃ R : S1024x1024.Idx → ℝ, (∀ i, a1 i = ((R i : ℝ) : EReal)) ∧ ∀ i, |R i| ≤ 100000)
    ∧ (∃ R : S1024.Idx → ℝ, (∀ i, a2 i = ((R i : ℝ) : EReal)) ∧ ∀ i, |R i| ≤ 100000)
    ∧ (∃ R : S1024x1024.Idx → ℝ, (∀ i, a3 i = ((R i : ℝ) : EReal)) ∧ ∀ i, |R i| ≤ 100000)
    ∧ (∃ R : S1024.Idx → ℝ, (∀ i, a4 i = ((R i : ℝ) : EReal)) ∧ ∀ i, |R i| ≤ 100000)
    ∧ ∃ R : S1024x1024.Idx → ℝ, ∀ i, a5 i = ((R i : ℝ) : EReal) := by
  unfold fn fn_part1 at h
  dsimp only at h
  obtain ⟨h0, h1, h2, h3, h4, h5⟩ := h
  exact ⟨reals_of_mask a0 _ _ h0, reals_of_mask a1 _ _ h1, reals_of_mask a2 _ _ h2, reals_of_mask a3 _ _ h3,
    reals_of_mask a4 _ _ h4, reals_of_finite a5 _ _ h5⟩

end Cert.Bounded
-- ==== Proof.HeadDefs.lean ====
/-
  One head of the kernel, as a composition of the stages of its first head, and the other three heads' stages as the
  same functions.
-/
module

public import proofs.«01_k».proof.Proof.Gen.KernelIdeal.Skeleton
public import Idealize.ShloMosaic.Lib.Pipeline.Value
public import Idealize.ShloMosaic.PureOps.Ideal

@[expose] public section

set_option maxRecDepth 16384

noncomputable section

namespace Cert.KernelIdeal.Head

open Cert.KernelIdeal Cert.KernelIdeal.Gen Idealize.ShloMosaic

/-- The contents of an array of 32-bit floats. -/
abbrev FArr (S : Shape) := FVec Ideal S .f32

/-- The head's queries, transposed. -/
def qT (x : FArr S2048x1024) (wq wk : FArr S1x64x1024) (bq bk : FArr S1x64x1) : FArr S64x2048 :=
  k0_pay15 x (k0_pay6 wq wk) (k0_pay10 bq bk)

/-- The head's keys, transposed. -/
def kT (x : FArr S2048x1024) (wq wk : FArr S1x64x1024) (bq bk : FArr S1x64x1) : FArr S64x2048 :=
  k0_pay19 x (k0_pay6 wq wk) (k0_pay10 bq bk)

/-- The queries with a row of ones below. -/
def aug (q : FArr S64x2048) : FArr S65x2048 := k0_pay25 q k0_pay23

/-- Every query's largest masked product with a key. -/
def maxT (q k : FArr S64x2048) (mb : FArr S1x2048) : FArr S2048x1 := k0_pay27 k (aug q) mb

/-- Every query's measure. -/
def gainT (q k : FArr S64x2048) (w : FArr S2048x1) (mb : FArr S1x2048) : FArr S2048x1 := k0_pay31 q k (maxT q k mb) w

/-- The largest measure. -/
def bestT (q k : FArr S64x2048) (w : FArr S2048x1) (mb : FArr S1x2048) : Ideal .f32 := k0_pay35 q k (maxT q k mb) w

/-- The position numbers of a column. -/
def iotaT : IVec S2048x1 32 := iota .tc S2048x1 32 [0] iota_S2048x1_d0_w32

/-- The indicator column of the chosen query. -/
def hotT (io : IVec S2048x1 32) (q k : FArr S64x2048) (w : FArr S2048x1) (mb : FArr S1x2048) : FArr S2048x1 :=
  k0_pay39 (gainT q k w mb) io (bestT q k w mb)

/-- The exponentials of the chosen query's scores less their largest. -/
def expT (io : IVec S2048x1 32) (q k : FArr S64x2048) (w : FArr S2048x1) (mb : FArr S1x2048) : FArr S1x2048 := k0_pay43 q k (hotT io q k w mb)

/-- The head's context row. -/
def headT (io : IVec S2048x1 32) (x : FArr S2048x1024) (wq wk wv : FArr S1x64x1024) (bq bk : FArr S1x64x1) (bv : FArr S1x1x64)
    (w : FArr S2048x1) (mb : FArr S1x2048) : FArr S1x64 :=
  k0_pay49 x (expT io (qT x wq wk bq bk) (kT x wq wk bq bk) w mb) wv bv

/-- Four heads' contexts, through their block of the output layer. -/
def partT (h0 h1 h2 h3 : FArr S1x64) (wo : FArr S1024x256) : FArr S1x1024 :=
  matmul dot_S1x256_S1024x256_S1x1024_1_1_0_0_n_n none
    (concatenate S1x256 1 [⟨S1x64, h0⟩, ⟨S1x64, h1⟩, ⟨S1x64, h2⟩, ⟨S1x64, h3⟩] concatenates_S1x64_S1x64_S1x64_S1x64_S1x256_d1)
    wo (constant S1x1024 .f32 0x00000000#32)

variable (io : IVec S2048x1 32) (x : FArr S2048x1024) (wq wk wv : FArr S1x64x1024) (bq bk : FArr S1x64x1) (bv : FArr S1x1x64)
  (q k : FArr S64x2048) (w : FArr S2048x1) (mb : FArr S1x2048)

theorem q0_eq : k0_pay15 x (k0_pay6 wq wk) (k0_pay10 bq bk) = qT x wq wk bq bk := rfl
theorem q1_eq : k0_pay16 x (k0_pay7 wq wk) bq bk = qT x wq wk bq bk := rfl
theorem q2_eq : k0_pay17 x (k0_pay8 wq wk) bq bk = qT x wq wk bq bk := rfl
theorem q3_eq : k0_pay18 x (k0_pay9 wq wk) bq bk = qT x wq wk bq bk := rfl
theorem k0_eq : k0_pay19 x (k0_pay6 wq wk) (k0_pay10 bq bk) = kT x wq wk bq bk := rfl
theorem k1_eq : k0_pay20 x (k0_pay7 wq wk) bq bk = kT x wq wk bq bk := rfl
theorem k2_eq : k0_pay21 x (k0_pay8 wq wk) bq bk = kT x wq wk bq bk := rfl
theorem k3_eq : k0_pay22 x (k0_pay9 wq wk) bq bk = kT x wq wk bq bk := rfl
theorem aug_eq : k0_pay24 x (k0_pay6 wq wk) (k0_pay10 bq bk) = aug (qT x wq wk bq bk) := rfl
theorem max0_eq : k0_pay27 k (aug q) mb = maxT q k mb := rfl
theorem max1_eq : k0_pay28 q k k0_pay23 mb = maxT q k mb := rfl
theorem max2_eq : k0_pay29 q k k0_pay23 mb = maxT q k mb := rfl
theorem gain0_eq : k0_pay31 q k (maxT q k mb) w = gainT q k w mb := rfl
theorem gain1_eq : k0_pay32 q k (maxT q k mb) w = gainT q k w mb := rfl
theorem gain2_eq : k0_pay33 q k (maxT q k mb) w = gainT q k w mb := rfl
theorem gain3_eq : k0_pay34 q k (k0_pay25 q k0_pay23) (k0_pay26 k mb) (k0_pay30 k mb)
    (constant S2048x1024 .f32 0x00000000#32) w = gainT q k w mb := rfl
theorem best0_eq : k0_pay35 q k (maxT q k mb) w = bestT q k w mb := rfl
theorem best1_eq : k0_pay36 q k (maxT q k mb) w = bestT q k w mb := rfl
theorem best2_eq : k0_pay37 q k (maxT q k mb) w = bestT q k w mb := rfl
theorem hot0_eq : k0_pay39 (gainT q k w mb) io (bestT q k w mb) = hotT io q k w mb := rfl
theorem hot1_eq : k0_pay40 (gainT q k w mb) io (bestT q k w mb) = hotT io q k w mb := rfl
theorem hot2_eq : k0_pay41 (gainT q k w mb) io (bestT q k w mb) = hotT io q k w mb := rfl
theorem hot3_eq : k0_pay42 (gainT q k w mb) io
    (k0_pay38 q k (k0_pay25 q k0_pay23) (k0_pay26 k mb) (k0_pay30 k mb) (constant S2048x1024 .f32 0x00000000#32) w)
      = hotT io q k w mb := rfl
theorem exp0_eq : k0_pay43 q k (hotT io q k w mb) = expT io q k w mb := rfl
theorem exp1_eq : k0_pay44 q k (hotT io q k w mb) = expT io q k w mb := rfl
theorem exp2_eq : k0_pay45 q k (hotT io q k w mb) = expT io q k w mb := rfl
theorem exp3_eq : k0_pay46 q k (hotT io q k w mb) = expT io q k w mb := rfl

/-- The four heads of a grid point, put together. -/
theorem part_eq (e0 e1 e2 e3 : FArr S1x2048) (wv0 wv1 wv2 wv3 : FArr S1x64x1024) (bv0 bv1 bv2 bv3 : FArr S1x1x64)
    (wo : FArr S1024x256) :
    k0_pay1 (k0_pay47 x e2) (k0_pay48 x e3) (k0_pay49 x e0 wv0 bv0) (k0_pay50 x e1 wv1) bv1 wv2 bv2 wv3 bv3 wo
      = partT (k0_pay49 x e0 wv0 bv0) (k0_pay49 x e1 wv1 bv1) (k0_pay49 x e2 wv2 bv2) (k0_pay49 x e3 wv3 bv3) wo := rfl

theorem head_eq : k0_pay49 x (expT io (qT x wq wk bq bk) (kT x wq wk bq bk) w mb) wv bv = headT io x wq wk wv bq bk bv w mb := rfl

theorem x_eq : k0_pay5 x = x := by unfold k0_pay5; exact shapeCast_self ..

end Cert.KernelIdeal.Head
-- ==== Proof.Body.lean ====
/-
  What the kernel's body leaves at a grid point: the scratch row and, at the last point, the output block, as functions
  of the point's input blocks and the scratch row before it.
-/
module

public import proofs.«01_k».proof.Proof.HeadDefs
public import proofs.«01_k».proof.Proof.Gen.KernelIdeal.Value
public import Idealize.ShloMosaic.Lib.StableHlo.Run
public import Idealize.ShloMosaic.Lib.Tactic
public import Idealize.ShloMosaic.Lib.Quiescent

@[expose] public section

set_option maxRecDepth 16384
set_option maxHeartbeats 4000000

noncomputable section

namespace Cert.KernelIdeal.Body

open Cert.KernelIdeal Cert.KernelIdeal.Gen Cert.KernelIdeal.Head Idealize.ShloMosaic Idealize.ShloMosaic.Pipeline

/-- The row a point adds to the scratch, from its input blocks. -/
def pointT (x0 : FArr S2048x1024) (x1 x2 x3 : FArr S4x64x1024) (x4 x5 : FArr S4x64x1) (x6 : FArr S4x1x64)
    (x7 : FArr S2048x1) (x8 : FArr S1x2048) (x9 : FArr S1024x256) : FArr S1x1024 :=
  partT
    (headT iotaT x0 (View.ld (Val := Elt Ideal) (e' := .f32) x1 (Rect.unit ![0, 0, 0] ![1, 64, 1024] inb_S4x64x1024_S1x64x1024_0_0_0))
      (View.ld (Val := Elt Ideal) (e' := .f32) x2 (Rect.unit ![0, 0, 0] ![1, 64, 1024] inb_S4x64x1024_S1x64x1024_0_0_0))
      (View.ld (Val := Elt Ideal) (e' := .f32) x3 (Rect.unit ![0, 0, 0] ![1, 64, 1024] inb_S4x64x1024_S1x64x1024_0_0_0))
      (View.ld (Val := Elt Ideal) (e' := .f32) x4 (Rect.unit ![0, 0, 0] ![1, 64, 1] inb_S4x64x1_S1x64x1_0_0_0))
      (View.ld (Val := Elt Ideal) (e' := .f32) x5 (Rect.unit ![0, 0, 0] ![1, 64, 1] inb_S4x64x1_S1x64x1_0_0_0))
      (View.ld (Val := Elt Ideal) (e' := .f32) x6 (Rect.unit ![0, 0, 0] ![1, 1, 64] inb_S4x1x64_S1x1x64_0_0_0)) x7 x8)
    (headT iotaT x0 (View.ld (Val := Elt Ideal) (e' := .f32) x1 (Rect.unit ![1, 0, 0] ![1, 64, 1024] inb_S4x64x1024_S1x64x1024_1_0_0))
      (View.ld (Val := Elt Ideal) (e' := .f32) x2 (Rect.unit ![1, 0, 0] ![1, 64, 1024] inb_S4x64x1024_S1x64x1024_1_0_0))
      (View.ld (Val := Elt Ideal) (e' := .f32) x3 (Rect.unit ![1, 0, 0] ![1, 64, 1024] inb_S4x64x1024_S1x64x1024_1_0_0))
      (View.ld (Val := Elt Ideal) (e' := .f32) x4 (Rect.unit ![1, 0, 0] ![1, 64, 1] inb_S4x64x1_S1x64x1_1_0_0))
      (View.ld (Val := Elt Ideal) (e' := .f32) x5 (Rect.unit ![1, 0, 0] ![1, 64, 1] inb_S4x64x1_S1x64x1_1_0_0))
      (View.ld (Val := Elt Ideal) (e' := .f32) x6 (Rect.unit ![1, 0, 0] ![1, 1, 64] inb_S4x1x64_S1x1x64_1_0_0)) x7 x8)
    (headT iotaT x0 (View.ld (Val := Elt Ideal) (e' := .f32) x1 (Rect.unit ![2, 0, 0] ![1, 64, 1024] inb_S4x64x1024_S1x64x1024_2_0_0))
      (View.ld (Val := Elt Ideal) (e' := .f32) x2 (Rect.unit ![2, 0, 0] ![1, 64, 1024] inb_S4x64x1024_S1x64x1024_2_0_0))
      (View.ld (Val := Elt Ideal) (e' := .f32) x3 (Rect.unit ![2, 0, 0] ![1, 64, 1024] inb_S4x64x1024_S1x64x1024_2_0_0))
      (View.ld (Val := Elt Ideal) (e' := .f32) x4 (Rect.unit ![2, 0, 0] ![1, 64, 1] inb_S4x64x1_S1x64x1_2_0_0))
      (View.ld (Val := Elt Ideal) (e' := .f32) x5 (Rect.unit ![2, 0, 0] ![1, 64, 1] inb_S4x64x1_S1x64x1_2_0_0))
      (View.ld (Val := Elt Ideal) (e' := .f32) x6 (Rect.unit ![2, 0, 0] ![1, 1, 64] inb_S4x1x64_S1x1x64_2_0_0)) x7 x8)
    (headT iotaT x0 (View.ld (Val := Elt Ideal) (e' := .f32) x1 (Rect.unit ![3, 0, 0] ![1, 64, 1024] inb_S4x64x1024_S1x64x1024_3_0_0))
      (View.ld (Val := Elt Ideal) (e' := .f32) x2 (Rect.unit ![3, 0, 0] ![1, 64, 1024] inb_S4x64x1024_S1x64x1024_3_0_0))
      (View.ld (Val := Elt Ideal) (e' := .f32) x3 (Rect.unit ![3, 0, 0] ![1, 64, 1024] inb_S4x64x1024_S1x64x1024_3_0_0))
      (View.ld (Val := Elt Ideal) (e' := .f32) x4 (Rect.unit ![3, 0, 0] ![1, 64, 1] inb_S4x64x1_S1x64x1_3_0_0))
      (View.ld (Val := Elt Ideal) (e' := .f32) x5 (Rect.unit ![3, 0, 0] ![1, 64, 1] inb_S4x64x1_S1x64x1_3_0_0))
      (View.ld (Val := Elt Ideal) (e' := .f32) x6 (Rect.unit ![3, 0, 0] ![1, 1, 64] inb_S4x1x64_S1x1x64_3_0_0)) x7 x8)
    x9

theorem hz : (![0, 0] : Fin 2 → Nat) = fun _ => 0 := by funext a; fin_cases a <;> rfl

section

variable (c : Dev nD) (i : grid0.Coords)
  (arg1 : Memref sig .tc .vmem S2048x1024 .f32) (harg1 : arg1.IsWhole)
  (arg2 : Memref sig .tc .vmem S4x64x1024 .f32) (harg2 : arg2.IsWhole)
  (arg3 : Memref sig .tc .vmem S4x64x1024 .f32) (harg3 : arg3.IsWhole)
  (arg4 : Memref sig .tc .vmem S4x64x1024 .f32) (harg4 : arg4.IsWhole)
  (arg5 : Memref sig .tc .vmem S4x64x1 .f32) (harg5 : arg5.IsWhole)
  (arg6 : Memref sig .tc .vmem S4x64x1 .f32) (harg6 : arg6.IsWhole)
  (arg7 : Memref sig .tc .vmem S4x1x64 .f32) (harg7 : arg7.IsWhole)
  (arg8 : Memref sig .tc .vmem S2048x1 .f32) (harg8 : arg8.IsWhole)
  (arg9 : Memref sig .tc .vmem S1x2048 .f32) (harg9 : arg9.IsWhole)
  (arg10 : Memref sig .tc .vmem S1024x256 .f32) (harg10 : arg10.IsWhole)
  (arg11 : Memref sig .tc .vmem S1x1024 .f32) (harg11 : arg11.IsWhole)
  (arg12 : Memref sig .tc .vmem S2048x1024 .f32) (harg12 : arg12.IsWhole)
  (arg13 : Memref sig .tc .vmem S1x1024 .f32) (harg13 : arg13.IsWhole)
  (x0 : FArr S2048x1024) (x1 x2 x3 : FArr S4x64x1024) (x4 x5 : FArr S4x64x1) (x6 : FArr S4x1x64)
  (x7 : FArr S2048x1) (x8 : FArr S1x2048) (x9 : FArr S1024x256) (x10 : FArr S1x1024)

/-- The first point stores its row. -/
theorem first (hc0 : cond0_0 i) (hc1 : ¬cond0_1 i) (hc2 : ¬cond0_2 i) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 x10
      = pointT x0 x1 x2 x3 x4 x5 x6 x7 x8 x9 := by
  unfold sout0_A_0
  rw [View.read_writes_eq_canon _ _ _ (scover0_A_0 (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 x10)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg13.read_unread,
    View.ld_unit_zero (S := S2048x1024) hz, View.ld_unit_zero (S := S2048x1) hz, View.ld_unit_zero (S := S1x2048) hz,
    View.ld_unit_zero (S := S1024x256) hz, View.ld_unit_zero (S := S1x1024) hz, shapeCast_self]
  unfold k0_pay2
  simp only [shapeCast_self, x_eq, q0_eq, q1_eq, q2_eq, q3_eq, k0_eq, k1_eq, k2_eq, k3_eq, aug_eq, max0_eq, max1_eq, max2_eq, gain0_eq, gain1_eq, gain2_eq,
    gain3_eq, best0_eq, best1_eq, best2_eq, hot0_eq, hot1_eq, hot2_eq, hot3_eq, exp0_eq, exp1_eq, exp2_eq, exp3_eq]
  rw [part_eq]
  simp only [head_eq]
  rfl

/-- A point between the first and the last adds its row. -/
theorem middle (hc0 : ¬cond0_0 i) (hc1 : cond0_1 i) (hc2 : ¬cond0_2 i) (xs0 : FArr S1x1024) :
    sout0_B_0 (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 x10 xs0
      = addf xs0 (pointT x0 x1 x2 x3 x4 x5 x6 x7 x8 x9) := by
  unfold sout0_B_0
  rw [View.read_writes_eq_canon _ _ _ (scover0_B_0 (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 x10 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg13.read_unread,
    View.ld_unit_zero (S := S2048x1024) hz, View.ld_unit_zero (S := S2048x1) hz, View.ld_unit_zero (S := S1x2048) hz,
    View.ld_unit_zero (S := S1024x256) hz, View.ld_unit_zero (S := S1x1024) hz, shapeCast_self]
  unfold k0_pay3
  simp only [shapeCast_self, x_eq, q0_eq, q1_eq, q2_eq, q3_eq, k0_eq, k1_eq, k2_eq, k3_eq, aug_eq, max0_eq, max1_eq, max2_eq, gain0_eq, gain1_eq, gain2_eq,
    gain3_eq, best0_eq, best1_eq, best2_eq, hot0_eq, hot1_eq, hot2_eq, hot3_eq, exp0_eq, exp1_eq, exp2_eq, exp3_eq]
  rw [part_eq]
  simp only [head_eq]
  rfl

/-- The last point stores, in every row, the sum and the output bias. -/
theorem last (hc0 : ¬cond0_0 i) (hc1 : cond0_1 i) (hc2 : cond0_2 i) (xs0 : FArr S1x1024) :
    out0_C_11 (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 x10 xs0
      = k0_pay4 (addf xs0 (pointT x0 x1 x2 x3 x4 x5 x6 x7 x8 x9)) x10 := by
  unfold out0_C_11
  rw [View.read_writes_eq_canon _ _ _ (cover0_C_11 (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 x10 xs0)]
  unfold kernelRun0_C
  dsimp only
  sl_unfold_words
  rw [View.canon_unit_zero hz]
  simp only [View.readCov_unit_zero (S := S1x1024) _ hz, View.readAt_eq_ld, harg1.read_unread, harg2.read_unread, harg3.read_unread, harg4.read_unread, harg5.read_unread, harg6.read_unread, harg7.read_unread, harg8.read_unread, harg9.read_unread, harg10.read_unread, harg11.read_unread, harg13.read_unread,
    View.ld_unit_zero (S := S2048x1024) hz, View.ld_unit_zero (S := S2048x1) hz, View.ld_unit_zero (S := S1x2048) hz,
    View.ld_unit_zero (S := S1024x256) hz, View.ld_unit_zero (S := S1x1024) hz, shapeCast_self]
  unfold k0_pay3
  simp only [shapeCast_self, x_eq, q0_eq, q1_eq, q2_eq, q3_eq, k0_eq, k1_eq, k2_eq, k3_eq, aug_eq, max0_eq, max1_eq, max2_eq, gain0_eq, gain1_eq, gain2_eq,
    gain3_eq, best0_eq, best1_eq, best2_eq, hot0_eq, hot1_eq, hot2_eq, hot3_eq, exp0_eq, exp1_eq, exp2_eq, exp3_eq]
  rw [part_eq]
  simp only [head_eq]
  rfl

end

end Cert.KernelIdeal.Body
-- ==== Proof.Sweep.lean ====
/-
  What the kernel's array holds after the grid: the four points' rows added up, the output bias added, in every row.
-/
module

public import proofs.«01_k».proof.Proof.Body
public import Idealize.ShloMosaic.Lib.Pointwise

@[expose] public section

set_option maxRecDepth 16384

noncomputable section

namespace Cert.KernelIdeal.Sweep

open Cert.KernelIdeal Cert.KernelIdeal.Gen Cert.KernelIdeal.Head Cert.KernelIdeal.Body Idealize.ShloMosaic

variable (m : (ℓ : Loc nD τ sig) → Buf (Elt Ideal) ℓ) (c : Dev nD)

/-- A pair's second half through an equation of the pair. -/
theorem snd_of {A B : Type} {p : A × B} {a : A} {b b' : B} (h : p = (a, b)) (g : b = b') : p.2 = b' := by
  subst h; exact g

/-- A pair's first half through an equation of the pair. -/
theorem fst_of {A B : Type} {p : A × B} {a a' : A} {b : B} (h : p = (a, b)) (g : a = a') : p.1 = a' := by
  subst h; exact g

/-- The row of a grid point. -/
def rowT (t : Fin cfg0.N) : FArr S1x1024 :=
  pointT (iblk m c 0 t) (iblk m c 1 t) (iblk m c 2 t) (iblk m c 3 t) (iblk m c 4 t) (iblk m c 5 t)
    (iblk m c 6 t) (iblk m c 7 t) (iblk m c 8 t) (iblk m c 9 t)

/-- The scratch row after the first point. -/
theorem stepA (t : Fin cfg0.N) (h0 : t.val % 4 = 0) (h1 : ¬1 ≤ t.val) (h2 : ¬t.val % 4 = 3) :
    (outsAt0 m c t.val t.isLt).2 = rowT m c t :=
  snd_of (outsAt0_A m c t h0 h1 h2) (first ..)

/-- The scratch row after a point between the first and the last. -/
theorem stepB (t : Fin cfg0.N) (h0 : ¬t.val % 4 = 0) (h1 : 1 ≤ t.val) (h2 : ¬t.val % 4 = 3) :
    (outsAt0 m c t.val t.isLt).2
      = addf (outsAt0 m c (t.val - 1) (Nat.lt_of_le_of_lt (Nat.sub_le _ _) t.isLt)).2 (rowT m c t) :=
  snd_of (outsAt0_B m c t h0 h1 h2) (middle ..)

/-- The output block at the last point. -/
theorem stepC (t : Fin cfg0.N) (h0 : ¬t.val % 4 = 0) (h1 : 1 ≤ t.val) (h2 : t.val % 4 = 3) :
    (outsAt0 m c t.val t.isLt).1
      = k0_pay4 (addf (outsAt0 m c (t.val - 1) (Nat.lt_of_le_of_lt (Nat.sub_le _ _) t.isLt)).2 (rowT m c t)) (iblk m c 10 t) :=
  fst_of (outsAt0_C m c t h0 h1 h2) (last ..)

/-- A grid point. -/
abbrev pt (t : Fin 4) : Fin cfg0.N := ⟨t.val, lt_of_lt_of_eq t.isLt N_0.symm⟩

/-- The kernel's result. -/
theorem result : Value.G11 m c
    = k0_pay4 (addf (addf (addf (rowT m c (pt 0)) (rowT m c (pt 1))) (rowT m c (pt 2))) (rowT m c (pt 3))) (iblk m c 10 (pt 3)) := by
  have a := stepA m c (pt 0) (by decide) (by decide) (by decide)
  have b := stepB m c (pt 1) (by decide) (by decide) (by decide)
  have d := stepB m c (pt 2) (by decide) (by decide) (by decide)
  have e := stepC m c (pt 3) (by decide) (by decide) (by decide)
  have b' := b.trans (congrArg (addf · (rowT m c (pt 1))) a)
  have d' := d.trans (congrArg (addf · (rowT m c (pt 2))) b')
  have e' := e.trans (congrArg (fun z => k0_pay4 (addf z (rowT m c (pt 3))) (iblk m c 10 (pt 3))) d')
  rw [Value.G11_last, ← Value.outsAt0_sweep m c 3 (lt_of_lt_of_eq (by decide) N_0.symm)]
  exact e'

/-- The last store at an index. -/
theorem store_read (a b c d : FArr S1x1024) (o : FArr S1x1024) (l : Fin 2048) (n : Fin 1024) :
    k0_pay4 (addf (addf (addf a b) c) d) o (ix2 l n) = a (ix2 0 n) + b (ix2 0 n) + c (ix2 0 n) + d (ix2 0 n) + o (ix2 0 n) := by
  pointwise [k0_pay4]

end Cert.KernelIdeal.Sweep
-- ==== Proof.Blocks.lean ====
/-
  The blocks the grid points read, at an index, as entries of the arguments.
-/
module

public import proofs.«01_k».proof.Proof.HeadDefs
public import proofs.«01_k».proof.Proof.Gen.KernelIdeal.Value
public import Idealize.ShloMosaic.Lib.Claim
public import Idealize.ShloMosaic.Lib.Pointwise
public import Idealize.ShloMosaic.Lib.Pipeline.ValueKit

@[expose] public section

set_option maxRecDepth 16384

noncomputable section

namespace Cert.KernelIdeal.Blocks

open Cert.KernelIdeal Cert.KernelIdeal.Gen Idealize.ShloMosaic Idealize.ShloMosaic.TcCoe

variable (m : (ℓ : Loc nD τ sig) → Buf (Elt Ideal) ℓ) (c : Dev nD)

/-- Every window's block index at every point. -/
theorem idx : ∀ t : Fin cfg0.N, win0_0.index t = ![0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0]
    ∧ win0_6.index t = ![t.val, 0, 0] ∧ win0_7.index t = ![0, 0] ∧ win0_8.index t = ![0, 0] ∧ win0_9.index t = ![0, t.val]
    ∧ win0_10.index t = ![0, 0] :=
  (by decide +kernel : ∀ t : Fin grid0.N, _)

/-- The sequence. -/
theorem blk0 (t : Fin cfg0.N) (l : Fin 2048) (k : Fin 1024) :
    iblk m c 0 t (ix2 l k) = m ((c : Thread nD τ).loc main_arg0) (ix3 0 l k) := by
  blk_simp [iblk, idx t]
  entry_read
  pointwise
  blk_ext [idx t]

/-- A head's slab of the query weights. -/
theorem blk1 (t : Fin cfg0.N) (i : Fin 4) (d : Fin 64) (k : Fin 1024) :
    iblk m c 1 t (ix3 i d k) = m ((c : Thread nD τ).loc main_arg1) (ix2 ⟨(t.val * 4 + i.val) * 64 + d.val, by have := t.isLt; have : cfg0.N = 4 := N_0; omega⟩ k) := by
  blk_simp [iblk, idx t]
  entry_read
  pointwise
  blk_ext [idx t]

/-- A head's slab of the key weights. -/
theorem blk2 (t : Fin cfg0.N) (i : Fin 4) (d : Fin 64) (k : Fin 1024) :
    iblk m c 2 t (ix3 i d k) = m ((c : Thread nD τ).loc main_arg3) (ix2 ⟨(t.val * 4 + i.val) * 64 + d.val, by have := t.isLt; have : cfg0.N = 4 := N_0; omega⟩ k) := by
  blk_simp [iblk, idx t]
  entry_read
  pointwise
  blk_ext [idx t]

/-- A head's slab of the value weights. -/
theorem blk3 (t : Fin cfg0.N) (i : Fin 4) (d : Fin 64) (k : Fin 1024) :
    iblk m c 3 t (ix3 i d k) = m ((c : Thread nD τ).loc main_arg5) (ix2 ⟨(t.val * 4 + i.val) * 64 + d.val, by have := t.isLt; have : cfg0.N = 4 := N_0; omega⟩ k) := by
  blk_simp [iblk, idx t]
  entry_read
  pointwise
  blk_ext [idx t]

/-- A head's part of the query bias. -/
theorem blk4 (t : Fin cfg0.N) (i : Fin 4) (d : Fin 64) :
    iblk m c 4 t (ix3 i d 0) = m ((c : Thread nD τ).loc main_arg2) (ix1 ⟨(t.val * 4 + i.val) * 64 + d.val, by have := t.isLt; have : cfg0.N = 4 := N_0; omega⟩) := by
  blk_simp [iblk, idx t]
  entry_read
  pointwise
  blk_ext [idx t]

/-- A head's part of the key bias. -/
theorem blk5 (t : Fin cfg0.N) (i : Fin 4) (d : Fin 64) :
    iblk m c 5 t (ix3 i d 0) = m ((c : Thread nD τ).loc main_arg4) (ix1 ⟨(t.val * 4 + i.val) * 64 + d.val, by have := t.isLt; have : cfg0.N = 4 := N_0; omega⟩) := by
  blk_simp [iblk, idx t]
  entry_read
  pointwise
  blk_ext [idx t]

/-- A head's part of the value bias. -/
theorem blk6 (t : Fin cfg0.N) (i : Fin 4) (d : Fin 64) :
    iblk m c 6 t (ix3 i 0 d) = m ((c : Thread nD τ).loc main_arg6) (ix1 ⟨(t.val * 4 + i.val) * 64 + d.val, by have := t.isLt; have : cfg0.N = 4 := N_0; omega⟩) := by
  blk_simp [iblk, idx t]
  entry_read
  pointwise
  blk_ext [idx t]

/-- The weights of the mean. -/
theorem blk7 (t : Fin cfg0.N) (l : Fin 2048) :
    iblk m c 7 t (ix2 l 0) = Ideal.ofBits .f32 (lit0t l.val) := by
  have e : ((cfg0.win 7).blk t).view.emb (ix2 l 0) = ix2 l 0 := by blk_ext [idx t]
  blk_simp [iblk, idx t]
  entry_read
  refine congrArg (Ideal.ofBits .f32) (congrArg lit0t ?_)
  refine (congrArg (fun i => (S2048x1.rowMajor i).val) e).trans ?_
  rw [Shape.rowMajor_val_two]
  show l.val * 1 + 0 = l.val
  omega

/-- The mask. -/
theorem blk8 (t : Fin cfg0.N) (l : Fin 2048) :
    iblk m c 8 t (ix2 0 l) = Ideal.ofBits .f32 (lit1t l.val) := by
  have e : ((cfg0.win 8).blk t).view.emb (ix2 0 l) = ix2 0 l := by blk_ext [idx t]
  blk_simp [iblk, idx t]
  entry_read
  refine congrArg (Ideal.ofBits .f32) (congrArg lit1t ?_)
  refine (congrArg (fun i => (S1x2048.rowMajor i).val) e).trans ?_
  rw [Shape.rowMajor_val_two]
  show 0 * 2048 + l.val = l.val
  omega

/-- The point's columns of the output layer. -/
theorem blk9 (t : Fin cfg0.N) (n : Fin 1024) (k : Fin 256) :
    iblk m c 9 t (ix2 n k) = m ((c : Thread nD τ).loc main_arg7) (ix2 n ⟨t.val * 256 + k.val, by have := t.isLt; have : cfg0.N = 4 := N_0; omega⟩) := by
  blk_simp [iblk, idx t]
  entry_read
  pointwise
  blk_ext [idx t]

/-- The output bias. -/
theorem blk10 (t : Fin cfg0.N) (n : Fin 1024) :
    iblk m c 10 t (ix2 0 n) = m ((c : Thread nD τ).loc main_arg8) (ix1 n) := by
  blk_simp [iblk, idx t]
  entry_read
  pointwise
  blk_ext [idx t]

end Cert.KernelIdeal.Blocks
-- ==== Proof.Tables.lean ====
/-
  The three literal tables, and how they fit together: the reference samples row `idx s` of the keys for
  `s = 0 … 4095`; the kernel holds, per row `j`, the word of `count j / 4096` and the word of a mask which is `0` where
  `count j` is positive and the word of `-1e30` where it is zero. Here `count j` is shown to be the number of `s` with
  `idx s = j`, by comparing two sums of powers of `2^13`, in which the counts are the digits.
-/
module

public import proofs.«01_k».proof.KernelIdeal
public import proofs.«01_k».proof.ReferenceIdeal
public import Mathlib.Algebra.BigOperators.Fin
public import Mathlib.Algebra.Order.BigOperators.Group.Finset

@[expose] public section

set_option maxRecDepth 16384

namespace Cert.Tables

/-- The sampled row number `s`, as the reference's table gives it. -/
noncomputable def idx (s : ℕ) : ℕ := (Cert.ReferenceIdeal.lit0t s).toNat

/-- The count whose 4096th part has the word `w` (words that the table does not hold are sent to zero). -/
def decode (w : BitVec 32) : ℕ :=
  if w = 0x39800000#32 then 1 else if w = 0x3A000000#32 then 2 else if w = 0x3A400000#32 then 3
  else if w = 0x3A800000#32 then 4 else if w = 0x3AA00000#32 then 5 else if w = 0x3AC00000#32 then 6
  else if w = 0x3AE00000#32 then 7 else if w = 0x3B000000#32 then 8 else 0

/-- The word of the 4096th part of a count up to eight. -/
def code (n : ℕ) : BitVec 32 :=
  match n with
  | 1 => 0x39800000#32 | 2 => 0x3A000000#32 | 3 => 0x3A400000#32 | 4 => 0x3A800000#32 | 5 => 0x3AA00000#32
  | 6 => 0x3AC00000#32 | 7 => 0x3AE00000#32 | 8 => 0x3B000000#32 | _ => 0x00000000#32

/-- How often row `j` is sampled, read off the kernel's table of mean weights. -/
noncomputable def count (j : ℕ) : ℕ := decode (Cert.KernelIdeal.lit0t j)

/-- `f lo + … + f (lo + 2^k - 1)`, halving the range. -/
def treeSum (f : ℕ → ℕ) : ℕ → ℕ → ℕ
  | 0, lo => f lo
  | k + 1, lo => treeSum f k lo + treeSum f k (lo + 2 ^ k)

/-- `p lo ∧ … ∧ p (lo + 2^k - 1)`, halving the range. -/
def treeAll (p : ℕ → Bool) : ℕ → ℕ → Bool
  | 0, lo => p lo
  | k + 1, lo => treeAll p k lo && treeAll p k (lo + 2 ^ k)

/-- The two sums of powers agree. -/
theorem sums_eq : treeSum (fun s => 2 ^ (13 * idx s)) 12 0 = treeSum (fun j => count j * 2 ^ (13 * j)) 11 0 := by
  decide +kernel

/-- Every sampled row is a row. -/
theorem idx_all : treeAll (fun s => decide (idx s < 2048)) 12 0 = true := by decide +kernel

/-- Every word of the mean table is the word of its count. -/
theorem mean_all : treeAll (fun j => decide (Cert.KernelIdeal.lit0t j = code (count j) ∧ count j ≤ 8)) 11 0 = true := by
  decide +kernel

/-- Every word of the mask table is the one its count calls for. -/
theorem mask_all : treeAll (fun j => decide (Cert.KernelIdeal.lit1t j =
    if count j = 0 then 0xF149F2CA#32 else 0x00000000#32)) 11 0 = true := by decide +kernel

end Cert.Tables
-- ==== Proof.TableFacts.lean ====
/-
  What the literal tables mean for sums and maxima: a sum over the sampled rows is the count-weighted sum over all
  rows, a row is sampled exactly where its count is positive, and the kernel's words are the counts' 4096th parts.
-/
module

public import proofs.«01_k».proof.Proof.Tables
public import proofs.«01_k».proof.Proof.Reals

@[expose] public section

set_option maxRecDepth 16384

namespace Cert.Tables

open Idealize.ShloMosaic Cert.Reals
open scoped BigOperators

/-- The halved sum is the sum over the range. -/
theorem treeSum_eq (f : ℕ → ℕ) (k lo : ℕ) : treeSum f k lo = ∑ i ∈ Finset.range (2 ^ k), f (lo + i) := by
  induction k generalizing lo with
  | zero => simp [treeSum]
  | succ k ih =>
    rw [treeSum, ih, ih, pow_succ, mul_two, Finset.sum_range_add]
    simp only [Nat.add_assoc]

/-- The halved conjunction holds at every number of the range. -/
theorem treeAll_at (p : ℕ → Bool) (k lo : ℕ) (h : treeAll p k lo = true) (i : ℕ) (hi : i < 2 ^ k) : p (lo + i) = true := by
  induction k generalizing lo i with
  | zero =>
    have : i = 0 := by simpa using hi
    rw [this]; exact h
  | succ k ih =>
    rw [treeAll, Bool.and_eq_true] at h
    by_cases hk : i < 2 ^ k
    · exact ih _ h.1 i hk
    · have := ih _ h.2 (i - 2 ^ k) (by rw [pow_succ] at hi; omega)
      rwa [show lo + 2 ^ k + (i - 2 ^ k) = lo + i by omega] at this

/-- Numbers below the base are determined by the sum of their multiples of its powers. -/
theorem digits_unique (B : ℕ) (n : ℕ) (a b : ℕ → ℕ) (ha : ∀ j, a j < B) (hb : ∀ j, b j < B)
    (h : ∑ j ∈ Finset.range n, a j * B ^ j = ∑ j ∈ Finset.range n, b j * B ^ j) (j : ℕ) (hj : j < n) : a j = b j := by
  induction n generalizing a b j with
  | zero => omega
  | succ n ih =>
    have hB : 0 < B := lt_of_le_of_lt (Nat.zero_le _) (ha 0)
    have split : ∀ c : ℕ → ℕ, ∑ j ∈ Finset.range (n + 1), c j * B ^ j
        = B * (∑ j ∈ Finset.range n, c (j + 1) * B ^ j) + c 0 := by
      intro c
      rw [Finset.sum_range_succ', Finset.mul_sum, pow_zero, mul_one]
      congr 1
      exact Finset.sum_congr rfl fun i _ => by rw [pow_succ]; ring
    rw [split, split] at h
    have h0 : a 0 = b 0 := by
      have := congrArg (· % B) h
      simpa [Nat.mul_add_mod, Nat.mod_eq_of_lt (ha 0), Nat.mod_eq_of_lt (hb 0)] using this
    rw [h0] at h
    have h1 := Nat.eq_of_mul_eq_mul_left hB (Nat.add_right_cancel h)
    cases j with
    | zero => exact h0
    | succ j => exact ih (fun j => a (j + 1)) (fun j => b (j + 1)) (fun j => ha _) (fun j => hb _) h1 j (by omega)

/-- Every sampled row is a row. -/
theorem idx_lt (s : Fin 4096) : idx s < 2048 := by
  have := treeAll_at _ _ _ idx_all s.val s.isLt
  rw [Nat.zero_add] at this
  exact of_decide_eq_true this

/-- The row sampled at `s`. -/
noncomputable def row (s : Fin 4096) : Fin 2048 := ⟨idx s, idx_lt s⟩

theorem mean_at (j : Fin 2048) : Cert.KernelIdeal.lit0t j = code (count j) ∧ count j ≤ 8 := by
  have := treeAll_at _ _ _ mean_all j.val j.isLt
  rw [Nat.zero_add] at this
  exact of_decide_eq_true this

theorem mask_at (j : Fin 2048) : Cert.KernelIdeal.lit1t j = if count j = 0 then 0xF149F2CA#32 else 0x00000000#32 := by
  have := treeAll_at _ _ _ mask_all j.val j.isLt
  rw [Nat.zero_add] at this
  exact of_decide_eq_true this

/-- The count of a row is the number of times it is sampled. -/
theorem card_row (j : Fin 2048) : (Finset.univ.filter fun s : Fin 4096 => row s = j).card = count j := by
  have h : treeSum (fun s => 2 ^ (13 * idx s)) 12 0 = treeSum (fun j => count j * 2 ^ (13 * j)) 11 0 := sums_eq
  rw [treeSum_eq, treeSum_eq] at h
  simp only [Nat.zero_add] at h
  let a : ℕ → ℕ := fun j => (Finset.univ.filter fun s : Fin 4096 => idx s = j).card
  have hl : ∑ s ∈ Finset.range (2 ^ 12), 2 ^ (13 * idx s) = ∑ j ∈ Finset.range 2048, a j * (2 ^ 13) ^ j := by
    rw [← Fin.sum_univ_eq_sum_range (fun s => 2 ^ (13 * idx s)) (2 ^ 12)]
    rw [← Finset.sum_fiberwise_of_maps_to (s := Finset.univ) (t := Finset.range 2048) (g := fun s : Fin (2 ^ 12) => idx s)
      (fun s _ => Finset.mem_range.mpr (idx_lt s))]
    refine Finset.sum_congr rfl fun j _ => ?_
    rw [← pow_mul, Finset.sum_congr rfl (g := fun _ => 2 ^ (13 * j))
      (fun s hs => by rw [(Finset.mem_filter.mp hs).2]), Finset.sum_const, smul_eq_mul]
    rfl
  have hr : ∑ j ∈ Finset.range (2 ^ 11), count j * 2 ^ (13 * j)
      = ∑ j ∈ Finset.range 2048, (if j < 2048 then count j else 0) * (2 ^ 13) ^ j := by
    refine Finset.sum_congr rfl fun j hj => ?_
    rw [← pow_mul, if_pos (by simpa using hj)]
  have e := digits_unique (2 ^ 13) 2048 a (fun j => if j < 2048 then count j else 0)
    (fun j => lt_of_le_of_lt (Finset.card_le_univ _) (by rw [Fintype.card_fin]; norm_num))
    (fun j => by
      by_cases hj : j < 2048
      · simp only [if_pos hj]; exact lt_of_le_of_lt (mean_at ⟨j, hj⟩).2 (by norm_num)
      · simp only [if_neg hj]; norm_num)
    (by rw [← hl, h, hr]) j.val j.isLt
  simp only [if_pos j.isLt] at e
  rw [← e]
  refine congrArg Finset.card (Finset.filter_congr fun s _ => ?_)
  exact ⟨fun h => congrArg Fin.val h, fun h => Fin.ext h⟩

/-- A sum over the sampled rows is the count-weighted sum over all rows. -/
theorem sum_row (f : Fin 2048 → ℝ) : ∑ s, f (row s) = ∑ j : Fin 2048, (count j : ℝ) * f j := by
  rw [← Finset.sum_fiberwise' (s := Finset.univ) (g := row) (f := f)]
  refine Finset.sum_congr rfl fun j _ => ?_
  rw [Finset.sum_const, card_row, nsmul_eq_mul]

/-- A sampled row has a positive count. -/
theorem count_row (s : Fin 4096) : count (row s) ≠ 0 := by
  rw [← card_row]
  exact (Finset.card_pos.mpr ⟨s, by simp⟩).ne'

/-- A row with a positive count is sampled. -/
theorem exists_row (j : Fin 2048) (h : count j ≠ 0) : ∃ s, row s = j := by
  rw [← card_row] at h
  obtain ⟨s, hs⟩ := Finset.card_pos.mp (Nat.pos_of_ne_zero h)
  exact ⟨s, (Finset.mem_filter.mp hs).2⟩

/-- The word of a small count's 4096th part has that value. -/
theorem ofBits_code (n : ℕ) (h : n ≤ 8) : Ideal.ofBits .f32 (code n) = (((n : ℝ) / 4096 : ℝ) : EReal) := by
  interval_cases n <;> simp [code, Ideal.ofBits, Ideal.ieee, -EReal.coe_mul] <;> norm_num

/-- The kernel's mean weights. -/
theorem mean_val (j : Fin 2048) : Ideal.ofBits .f32 (Cert.KernelIdeal.lit0t j) = (((count j : ℝ) / 4096 : ℝ) : EReal) := by
  rw [(mean_at j).1, ofBits_code _ (mean_at j).2]

/-- The kernel's mask, as a real number: zero at the sampled rows, very negative elsewhere. -/
theorem mask_val : ∃ m : Fin 2048 → ℝ, (∀ j : Fin 2048, Ideal.ofBits .f32 (Cert.KernelIdeal.lit1t j) = ((m j : ℝ) : EReal))
    ∧ (∀ j : Fin 2048, count j ≠ 0 → m j = 0) ∧ ∀ j : Fin 2048, count j = 0 → m j ≤ -(9 * 10 ^ 29) := by
  obtain ⟨r, hr, hle⟩ := ofBits_mask
  refine ⟨fun j => if count j = 0 then r else 0, fun j => ?_, fun j h => if_neg h, fun j h => by simp only [if_pos h]; exact hle⟩
  rw [mask_at]
  by_cases h : count j = 0
  · rw [if_pos h, hr]; simp only [if_pos h]
  · rw [if_neg h]; simp [h, Ideal.ofBits, Ideal.ieee]

end Cert.Tables
-- ==== Proof.Spec.lean ====
/-
  What both programs compute: the projections, each head's chosen query, its softmax over all keys, the
  context it mixes out of the values, and the output row every position of the sequence receives.
-/
module

public import proofs.«01_k».proof.Proof.TableFacts

@[expose] public section

noncomputable section

namespace Cert.Spec

open Cert.Reals Cert.Tables
open scoped BigOperators

/-- A linear layer of the sequence. -/
def proj (X : Fin 2048 → Fin 1024 → ℝ) (W : Fin 1024 → Fin 1024 → ℝ) (B : Fin 1024 → ℝ) (l : Fin 2048) (n : Fin 1024) : ℝ :=
  ∑ c, X l c * W n c + B n

/-- The column of entry `d` of head `h`. -/
def col (h : Fin 16) (d : Fin 64) : Fin 1024 := ⟨h.val * 64 + d.val, by omega⟩

/-- One head's columns of a projection. -/
def head (X : Fin 2048 → Fin 1024 → ℝ) (W : Fin 1024 → Fin 1024 → ℝ) (B : Fin 1024 → ℝ) (h : Fin 16)
    (l : Fin 2048) (d : Fin 64) : ℝ := proj X W B l (col h d)

/-- A query's largest product with a sampled key, less the mean of its products with the sampled keys. -/
def gain (Q K : Fin 2048 → Fin 64 → ℝ) (l : Fin 2048) : ℝ :=
  top (fun s => ∑ d, Q l d * K (row s) d) - (∑ s, ∑ d, Q l d * K (row s) d) / 4096

/-- The first query of the largest gain. -/
def pick (Q K : Fin 2048 → Fin 64 → ℝ) : Fin 2048 := Classical.choose (exists_isFirst (gain Q K))

theorem pick_isFirst (Q K : Fin 2048 → Fin 64 → ℝ) : IsFirst (gain Q K) (pick Q K) :=
  Classical.choose_spec (exists_isFirst (gain Q K))

/-- The chosen query's scaled products with all keys. -/
def score (Q K : Fin 2048 → Fin 64 → ℝ) (s : Fin 2048) : ℝ := (∑ d, Q (pick Q K) d * K s d) / 8

/-- The exponentials the softmax is the quotient of. -/
def expo (Z : Fin 2048 → ℝ) (s : Fin 2048) : ℝ := Real.exp (Z s - top Z)

/-- Their sum is not zero. -/
theorem sum_expo_ne (Z : Fin 2048 → ℝ) : ∑ s, expo Z s ≠ 0 :=
  (Finset.sum_pos (fun _ _ => Real.exp_pos _) Finset.univ_nonempty).ne'

/-- The softmax of the scores. -/
def soft (Z : Fin 2048 → ℝ) (s : Fin 2048) : ℝ := expo Z s / ∑ x, expo Z x

/-- The weights add up to one. -/
theorem sum_soft (Z : Fin 2048 → ℝ) : ∑ s, soft Z s = 1 := by
  unfold soft
  rw [← Finset.sum_div, div_self (sum_expo_ne Z)]

/-- The context of one head. -/
def ctx (Q K V : Fin 2048 → Fin 64 → ℝ) (d : Fin 64) : ℝ := ∑ s, soft (score Q K) s * V s d

/-- A sum of plus infinities. -/
theorem sum_top (n : ℕ) : ∑ _s : Fin (n + 1), (⊤ : EReal) = ⊤ := by
  induction n with
  | zero => simp
  | succ n ih => rw [Fin.sum_univ_succ, ih, EReal.top_add_top]

/-- A sum of minus infinities. -/
theorem sum_bot (n : ℕ) : ∑ _s : Fin (n + 1), (⊥ : EReal) = ⊥ := by
  rw [Fin.sum_univ_succ, EReal.bot_add]

/-- Values with a bias, mixed by the softmax, are the mixed values with the bias, whatever extended real the bias is. -/
theorem soft_bias (Z V : Fin 2048 → ℝ) (b : EReal) :
    ∑ s, ((soft Z s : ℝ) : EReal) * (((V s : ℝ) : EReal) + b) = ((∑ s, soft Z s * V s : ℝ) : EReal) + b := by
  have hp : ∀ s, 0 < soft Z s := fun s =>
    div_pos (Real.exp_pos _) (Finset.sum_pos (fun _ _ => Real.exp_pos _) Finset.univ_nonempty)
  induction b with
  | bot =>
    rw [EReal.add_bot]
    exact (Finset.sum_congr rfl fun s _ => by rw [EReal.add_bot, EReal.coe_mul_bot_of_pos (hp s)]).trans (sum_bot 2047)
  | coe b =>
    have e : ∑ s, soft Z s * V s + b = ∑ s, soft Z s * (V s + b) := by
      simp only [mul_add, Finset.sum_add_distrib]
      rw [← Finset.sum_mul, sum_soft, one_mul]
    rw [← EReal.coe_add, e, ← sum_coe]
    exact Finset.sum_congr rfl fun s _ => by rw [← EReal.coe_add, EReal.coe_mul]
  | top =>
    rw [EReal.coe_add_top]
    exact (Finset.sum_congr rfl fun s _ => by rw [EReal.coe_add_top, EReal.coe_mul_top_of_pos (hp s)]).trans (sum_top 2047)

/-- The context of head `h` of the whole layer; the bias of the values may be any extended real. -/
def headCtx (X : Fin 2048 → Fin 1024 → ℝ) (Wq Wk Wv : Fin 1024 → Fin 1024 → ℝ) (Bq Bk : Fin 1024 → ℝ) (Bv : Fin 1024 → EReal)
    (h : Fin 16) (d : Fin 64) : EReal :=
  ((ctx (head X Wq Bq h) (head X Wk Bk h) (head X Wv (fun _ => 0) h) d : ℝ) : EReal) + Bv (col h d)

/-- The output row. -/
def out (X : Fin 2048 → Fin 1024 → ℝ) (Wq Wk Wv : Fin 1024 → Fin 1024 → ℝ) (Wo : Fin 1024 → Fin 1024 → EReal)
    (Bq Bk : Fin 1024 → ℝ) (Bv Bo : Fin 1024 → EReal) (n : Fin 1024) : EReal :=
  ∑ c : Fin 1024, headCtx X Wq Wk Wv Bq Bk Bv ⟨c.val / 64, by omega⟩ ⟨c.val % 64, by omega⟩ * Wo n c + Bo n

end Cert.Spec
-- ==== Proof.HeadProj.lean ====
/-
  The queries and keys of one head at an index, over real arguments.
-/
module

public import proofs.«01_k».proof.Proof.HeadDefs
public import proofs.«01_k».proof.Proof.Spec
public import Idealize.ShloMosaic.Lib.Pointwise

@[expose] public section

set_option maxRecDepth 16384
set_option maxHeartbeats 4000000

noncomputable section

namespace Cert.KernelIdeal.Head

open Cert.KernelIdeal Cert.KernelIdeal.Gen Idealize.ShloMosaic Cert.Reals Cert.Tables Cert.Spec
open scoped BigOperators

/-- The queries of real arguments. -/
theorem qT_at (x : FArr S2048x1024) (wq wk : FArr S1x64x1024) (bq bk : FArr S1x64x1)
    (X : Fin 2048 → Fin 1024 → ℝ) (W : Fin 64 → Fin 1024 → ℝ) (B : Fin 64 → ℝ)
    (hx : ∀ l c, x (ix2 l c) = ((X l c : ℝ) : EReal)) (hw : ∀ d c, wq (ix3 0 d c) = ((W d c : ℝ) : EReal))
    (hb : ∀ d, bq (ix3 0 d 0) = ((B d : ℝ) : EReal)) (d : Fin 64) (l : Fin 2048) :
    qT x wq wk bq bk (ix2 d l) = ((∑ c, X l c * W d c + B d : ℝ) : EReal) := by
  have e : qT x wq wk bq bk (ix2 d l) = ∑ c : Fin 1024, wq (ix3 0 d c) * x (ix2 l c) + bq (ix3 0 d 0) := by
    pointwise [qT, k0_pay15, k0_pay11, k0_pay6, k0_pay10]
  rw [e, hb, EReal.coe_add, ← dot_coe]
  simp only [hx, hw, mul_comm]

/-- The keys of real arguments. -/
theorem kT_at (x : FArr S2048x1024) (wq wk : FArr S1x64x1024) (bq bk : FArr S1x64x1)
    (X : Fin 2048 → Fin 1024 → ℝ) (W : Fin 64 → Fin 1024 → ℝ) (B : Fin 64 → ℝ)
    (hx : ∀ l c, x (ix2 l c) = ((X l c : ℝ) : EReal)) (hw : ∀ d c, wk (ix3 0 d c) = ((W d c : ℝ) : EReal))
    (hb : ∀ d, bk (ix3 0 d 0) = ((B d : ℝ) : EReal)) (d : Fin 64) (l : Fin 2048) :
    kT x wq wk bq bk (ix2 d l) = ((∑ c, X l c * W d c + B d : ℝ) : EReal) := by
  have e : kT x wq wk bq bk (ix2 d l) = ∑ c : Fin 1024, wk (ix3 0 d c) * x (ix2 l c) + bk (ix3 0 d 0) := by
    pointwise [kT, k0_pay19, k0_pay11, k0_pay6, k0_pay10]
  rw [e, hb, EReal.coe_add, ← dot_coe]
  simp only [hx, hw, mul_comm]

theorem aug_lo (q : FArr S64x2048) (d : Fin 64) (l : Fin 2048) :
    aug q (ix2 ⟨d.val, by omega⟩ l) = q (ix2 d l) := by
  pointwise [aug, k0_pay25, k0_pay23]

theorem aug_hi (q : FArr S64x2048) (l : Fin 2048) : aug q (ix2 64 l) = 1 := by
  pointwise [aug, k0_pay25, k0_pay23]

end Cert.KernelIdeal.Head
-- ==== Proof.HeadMax.lean ====
/-
  The largest masked product of one query, over real arguments.
-/
module

public import proofs.«01_k».proof.Proof.HeadDefs
public import proofs.«01_k».proof.Proof.Spec
public import proofs.«01_k».proof.Proof.HeadProj
public import Idealize.ShloMosaic.Lib.Pointwise

@[expose] public section

set_option maxRecDepth 16384
set_option maxHeartbeats 4000000

noncomputable section

namespace Cert.KernelIdeal.Head

open Cert.KernelIdeal Cert.KernelIdeal.Gen Idealize.ShloMosaic Cert.Reals Cert.Tables Cert.Spec
open scoped BigOperators

/-- Every query's largest product with the columns of a half. -/
def halfT (a : FArr S65x2048) (s : FArr S65x1024) : FArr S2048x1 :=
  shapeCast S2048x1
    (multiReduction .maximumf [1] S2048
      (matmul dot_S65x2048_S65x1024_S2048x1024_0_0_1_1_n_n none a s (constant S2048x1024 .f32 0x00000000#32))
      0xFF800000#32 reduces_S2048x1024_S2048 (.inl rfl) rfl) shapeCasts_S2048_S2048x1

/-- The keys with the mask row below. -/
def keysT (k : FArr S64x2048) (mb : FArr S1x2048) : FArr S65x2048 :=
  concatenate S65x2048 0 [⟨S64x2048, k⟩, ⟨S1x2048, mb⟩] concatenates_S64x2048_S1x2048_S65x2048_d0

/-- The maximum over all keys is the larger of the halves' maxima. -/
theorem max_halves (k : FArr S64x2048) (a : FArr S65x2048) (mb : FArr S1x2048) :
    k0_pay27 k a mb = maximumf
      (halfT a (extractStridedSlice S65x1024 ![0, 0] (keysT k mb) slices_S65x2048_o0_0_S65x1024))
      (halfT a (extractStridedSlice S65x1024 ![0, 1024] (keysT k mb) slices_S65x2048_o0_1024_S65x1024)) := rfl

/-- A half's largest product at a query. -/
theorem half_read (a : FArr S65x2048) (s : FArr S65x1024) (l : Fin 2048) :
    halfT a s (ix2 l 0) = (Finset.univ : Finset (Fin 1024)).fold max (Ideal.ofBits .f32 0xFF800000#32) fun x =>
      ∑ r : Fin 65, a (ix2 r l) * s (ix2 r x) := by
  pointwise [halfT]

/-- The first half of the columns. -/
theorem slice_lo (v : FArr S65x2048) (r : Fin 65) (x : Fin 1024) :
    extractStridedSlice S65x1024 ![0, 0] v slices_S65x2048_o0_0_S65x1024 (ix2 r x) = v (ix2 r ⟨x.val, by omega⟩) := by
  pointwise []

/-- The second half of the columns. -/
theorem slice_hi (v : FArr S65x2048) (r : Fin 65) (x : Fin 1024) :
    extractStridedSlice S65x1024 ![0, 1024] v slices_S65x2048_o0_1024_S65x1024 (ix2 r x) = v (ix2 r ⟨1024 + x.val, by omega⟩) := by
  pointwise []

/-- The keys of the extended array. -/
theorem keys_lo (k : FArr S64x2048) (mb : FArr S1x2048) (d : Fin 64) (l : Fin 2048) :
    keysT k mb (ix2 ⟨d.val, by omega⟩ l) = k (ix2 d l) := by
  pointwise [keysT]

/-- The mask row of the extended array. -/
theorem keys_hi (k : FArr S64x2048) (mb : FArr S1x2048) (l : Fin 2048) :
    keysT k mb (ix2 64 l) = mb (ix2 0 l) := by
  pointwise [keysT]

/-- The product of a query with a key, the mask added. -/
theorem sum_aug (q k : FArr S64x2048) (mb : FArr S1x2048) (l j : Fin 2048) :
    ∑ r : Fin 65, aug q (ix2 r l) * keysT k mb (ix2 r j) = ∑ d : Fin 64, q (ix2 d l) * k (ix2 d j) + mb (ix2 0 j) := by
  have h := Fin.sum_univ_castSucc (n := 64) fun r : Fin 65 => aug q (ix2 r l) * keysT k mb (ix2 r j)
  refine h.trans ?_
  have e1 : aug q (ix2 (Fin.last 64) l) = 1 := aug_hi q l
  have e2 : keysT k mb (ix2 (Fin.last 64) j) = mb (ix2 0 j) := keys_hi k mb j
  rw [e1, e2, one_mul]
  exact congrArg (· + _) (Finset.sum_congr rfl fun d _ => congrArg₂ (· * ·) (aug_lo q d l) (keys_lo k mb d j))

section

variable (q k : FArr S64x2048) (mb : FArr S1x2048)
  (Q K : Fin 2048 → Fin 64 → ℝ) (M : Fin 2048 → ℝ)

/-- The largest masked product of a query. -/
theorem maxT_at (hq : ∀ d l, q (ix2 d l) = ((Q l d : ℝ) : EReal)) (hk : ∀ d l, k (ix2 d l) = ((K l d : ℝ) : EReal))
    (hm : ∀ l, mb (ix2 0 l) = ((M l : ℝ) : EReal)) (l : Fin 2048) :
    maxT q k mb (ix2 l 0) = ((top (fun j => ∑ d, Q l d * K j d + M j) : ℝ) : EReal) := by
  have e : ∀ j : Fin 2048, ∑ r : Fin 65, aug q (ix2 r l) * keysT k mb (ix2 r j) = ((∑ d, Q l d * K j d + M j : ℝ) : EReal) := fun j => by
    rw [sum_aug, hm, EReal.coe_add, ← dot_coe]
    simp only [hq, hk]
  unfold maxT
  rw [max_halves]
  have m : ∀ v w : FArr S2048x1, maximumf v w (ix2 l 0) = max (v (ix2 l 0)) (w (ix2 l 0)) := fun v w => by pointwise []
  rw [m, half_read, half_read, ofBits_negInf]
  simp only [slice_lo, slice_hi, e]
  rw [fold_max_coe, fold_max_coe, max_coe]
  refine congrArg _ (Eq.symm ?_)
  set f : Fin 2048 → ℝ := fun j => ∑ d, Q l d * K j d + M j with hf
  obtain ⟨i, hi⟩ := exists_top f
  have hle : ∀ j, f j ≤ max (top fun x : Fin 1024 => f ⟨x.val, by omega⟩) (top fun x : Fin 1024 => f ⟨1024 + x.val, by omega⟩) := fun j => by
    by_cases h : j.val < 1024
    · exact le_max_of_le_left (le_top (fun x : Fin 1024 => f ⟨x.val, by omega⟩) ⟨j.val, h⟩)
    · refine le_max_of_le_right ?_
      have := le_top (fun x : Fin 1024 => f ⟨1024 + x.val, by omega⟩) ⟨j.val - 1024, by omega⟩
      have e : (⟨1024 + (j.val - 1024), by omega⟩ : Fin 2048) = j := Fin.ext (by simp; omega)
      simpa only [e] using this
  refine le_antisymm (by rw [← hi]; exact hle i) (max_le ?_ ?_)
  · obtain ⟨x, hx⟩ := exists_top (fun x : Fin 1024 => f ⟨x.val, by omega⟩)
    rw [← hx]; exact le_top f _
  · obtain ⟨x, hx⟩ := exists_top (fun x : Fin 1024 => f ⟨1024 + x.val, by omega⟩)
    rw [← hx]; exact le_top f _

end

end Cert.KernelIdeal.Head
-- ==== Proof.HeadGain.lean ====
/-
  The measure of a query and the largest measure, over real arguments.
-/
module

public import proofs.«01_k».proof.Proof.HeadDefs
public import proofs.«01_k».proof.Proof.Spec
public import proofs.«01_k».proof.Proof.HeadMax
public import Idealize.ShloMosaic.Lib.Pointwise

@[expose] public section

set_option maxRecDepth 16384
set_option maxHeartbeats 4000000

noncomputable section

namespace Cert.KernelIdeal.Head

open Cert.KernelIdeal Cert.KernelIdeal.Gen Idealize.ShloMosaic Cert.Reals Cert.Tables Cert.Spec
open scoped BigOperators

/-- A measure, with the products spelled out. -/
theorem gain_read (q k : FArr S64x2048) (z w : FArr S2048x1) (l : Fin 2048) :
    k0_pay31 q k z w (ix2 l 0) = z (ix2 l 0) - ∑ d, q (ix2 d l) * ∑ j, k (ix2 d j) * w (ix2 j 0) := by
  pointwise [k0_pay31]

/-- The largest entry of a column. -/
def largest (g : FArr S2048x1) : Ideal .f32 :=
  extractAt ![0, 0, 0] (shapeCast S1x1x1 (multiReduction .maximumf [1, 2] S1 (shapeCast S1x2048x1 g shapeCasts_S2048x1_S1x2048x1)
    0xFF800000#32 reduces_S1x2048x1_S1 (.inl rfl) rfl) shapeCasts_S1_S1x1x1) inpos_S1x1x1_p0_0_0

/-- The largest entry of a column as a running maximum. -/
theorem largest_read (g : FArr S2048x1) : largest g
    = (Finset.univ : Finset (Fin 2048 × Fin 1)).fold max (Ideal.ofBits .f32 0xFF800000#32) (fun x => g (ix2 x.1 0)) := by
  pointwise [largest]

/-- The largest measure is the largest entry of the measures. -/
theorem best_largest (q k : FArr S64x2048) (w : FArr S2048x1) (mb : FArr S1x2048) :
    bestT q k w mb = largest (gainT q k w mb) := rfl

section

variable (q k : FArr S64x2048) (w : FArr S2048x1) (mb : FArr S1x2048)
  (Q K : Fin 2048 → Fin 64 → ℝ) (W M : Fin 2048 → ℝ)

/-- A query's measure. -/
theorem gainT_at (hq : ∀ d l, q (ix2 d l) = ((Q l d : ℝ) : EReal)) (hk : ∀ d l, k (ix2 d l) = ((K l d : ℝ) : EReal))
    (hm : ∀ l, mb (ix2 0 l) = ((M l : ℝ) : EReal)) (hw : ∀ l, w (ix2 l 0) = ((W l : ℝ) : EReal)) (l : Fin 2048) :
    gainT q k w mb (ix2 l 0)
      = ((top (fun j => ∑ d, Q l d * K j d + M j) - ∑ d, Q l d * ∑ j, K j d * W j : ℝ) : EReal) := by
  have h := maxT_at q k mb Q K M hq hk hm l
  unfold gainT
  have e2 : ∀ d, ∑ j, k (ix2 d j) * w (ix2 j 0) = ((∑ j, K j d * W j : ℝ) : EReal) := fun d => by
    rw [← dot_coe]; simp only [hk, hw]
  rw [gain_read, h, EReal.coe_sub, ← dot_coe]
  simp only [e2, hq]

/-- The largest measure. -/
theorem bestT_at (G : Fin 2048 → ℝ) (hg : ∀ l, gainT q k w mb (ix2 l 0) = ((G l : ℝ) : EReal)) (u : Fin 2048)
    (hu : IsFirst G u) : bestT q k w mb = ((G u : ℝ) : EReal) := by
  have e2 : (fun x : Fin 2048 × Fin 1 => gainT q k w mb (ix2 x.1 0)) = fun x => ((G x.1 : ℝ) : EReal) := funext fun x => hg x.1
  rw [best_largest, largest_read, e2, ofBits_negInf, fold_max_coe]
  exact congrArg _ (eq_top _ _ (fun x => hu.1 x.1) (u, 0) rfl)

end

end Cert.KernelIdeal.Head
-- ==== Proof.HeadHot.lean ====
/-
  The indicator of the chosen query.
-/
module

public import proofs.«01_k».proof.Proof.HeadDefs
public import proofs.«01_k».proof.Proof.Spec
public import Idealize.ShloMosaic.Lib.Pointwise
public import Idealize.ShloMosaic.Lib.SortNet.Extract

@[expose] public section

set_option maxRecDepth 16384
set_option maxHeartbeats 4000000

noncomputable section

namespace Cert.KernelIdeal.Head

open Cert.KernelIdeal Cert.KernelIdeal.Gen Idealize.ShloMosaic Cert.Reals Cert.Tables Cert.Spec
open scoped BigOperators

/-- An entry of the indicator, with the running minimum spelled out. -/
theorem hot_read (g : FArr S2048x1) (b : Ideal .f32) (l : Fin 2048) :
    k0_pay39 g (iota .tc S2048x1 32 [0] iota_S2048x1_d0_w32) b (ix2 l 0) = FloatOps.sitofp (F := Ideal) .f32
      (BitVec.setWidth 32 (IntOp.cmpi .eq (BitVec.ofNat 32 l.val)
        ((Finset.univ : Finset (Fin 2048 × Fin 1)).fold IntOp.minsi 2147483647#32
          (fun x => if b ≤ g (ix2 x.1 0) then BitVec.ofNat 32 x.1.val else 2048#32)))) := by
  pointwise [k0_pay39]

/-- A running signed minimum is at most its start, at most every entry, and is one of them. -/
theorem fold_minsi {ι : Type*} (s : Finset ι) (b : BitVec 32) (f : ι → BitVec 32) :
    (s.fold IntOp.minsi b f).toInt ≤ b.toInt ∧ (∀ i ∈ s, (s.fold IntOp.minsi b f).toInt ≤ (f i).toInt)
      ∧ ((s.fold IntOp.minsi b f).toInt = b.toInt ∨ ∃ i ∈ s, (s.fold IntOp.minsi b f).toInt = (f i).toInt) := by
  classical
  induction s using Finset.induction_on with
  | empty => simp
  | insert a s ha ih =>
    obtain ⟨h1, h2, h3⟩ := ih
    rw [Finset.fold_insert ha, SortNet.toInt_minsi]
    refine ⟨(min_le_right _ _).trans h1, fun i hi => ?_, ?_⟩
    · rcases Finset.mem_insert.mp hi with rfl | hi
      · exact min_le_left _ _
      · exact (min_le_right _ _).trans (h2 i hi)
    · rcases min_choice (f a).toInt (s.fold IntOp.minsi b f).toInt with e | e
      · exact Or.inr ⟨a, Finset.mem_insert_self a s, e⟩
      · rw [e]
        rcases h3 with h3 | ⟨i, hi, h3⟩
        · exact Or.inl h3
        · exact Or.inr ⟨i, Finset.mem_insert_of_mem hi, h3⟩

/-- A running signed minimum over a whole type is at most every entry, and is its start or an entry. -/
theorem fold_minsi_univ {ι : Type*} [Fintype ι] (b : BitVec 32) (f : ι → BitVec 32) :
    (∀ i, ((Finset.univ : Finset ι).fold IntOp.minsi b f).toInt ≤ (f i).toInt)
      ∧ (((Finset.univ : Finset ι).fold IntOp.minsi b f).toInt = b.toInt
        ∨ ∃ i, ((Finset.univ : Finset ι).fold IntOp.minsi b f).toInt = (f i).toInt) := by
  obtain ⟨-, h2, h3⟩ := fold_minsi (Finset.univ : Finset ι) b f
  exact ⟨fun i => h2 i (Finset.mem_univ i), h3.imp id fun ⟨i, _, e⟩ => ⟨i, e⟩⟩

/-- A position number as a word. -/
theorem toInt_pos (j : Fin 2048) : (BitVec.ofNat 32 j.val).toInt = (j.val : ℤ) := by
  rw [BitVec.toInt_eq_toNat_cond, BitVec.toNat_ofNat]
  have := j.isLt
  rw [Nat.mod_eq_of_lt (by omega)]
  split <;> omega

/-- The running minimum of the positions of the largest entries is the first of them. -/
theorem first_word (G : Fin 2048 → ℝ) (u : Fin 2048) (hu : IsFirst G u) (w : Fin 2048 × Fin 1 → BitVec 32)
    (h1 : ∀ x, G u ≤ G x.1 → w x = BitVec.ofNat 32 x.1.val) (h2 : ∀ x, ¬ G u ≤ G x.1 → w x = 2048#32) :
    (Finset.univ : Finset (Fin 2048 × Fin 1)).fold IntOp.minsi 2147483647#32 w = BitVec.ofNat 32 u.val := by
  obtain ⟨hle, hor⟩ := fold_minsi_univ 2147483647#32 w
  generalize (Finset.univ : Finset (Fin 2048 × Fin 1)).fold IntOp.minsi 2147483647#32 w = z at hle hor ⊢
  have hG : G u ≤ G ((u, (0 : Fin 1)) : Fin 2048 × Fin 1).1 := le_refl (G u)
  have hz := hle (u, (0 : Fin 1))
  rw [h1 (u, 0) hG, toInt_pos] at hz
  change z.toInt ≤ (u.val : ℤ) at hz
  have hul := u.isLt
  apply BitVec.eq_of_toInt_eq
  rw [toInt_pos]
  rcases hor with e | ⟨x, e⟩
  · rw [e] at hz
    have : (2147483647#32).toInt = 2147483647 := by decide
    omega
  · by_cases h : G u ≤ G x.1
    · rw [h1 x h, toInt_pos] at e
      have := hu.2 x.1 (le_antisymm (hu.1 x.1) h)
      have := Fin.le_def.mp this
      omega
    · rw [h2 x h] at e
      have : (2048#32).toInt = 2048 := by decide
      omega

/-- The number a comparison of two positions turns into. -/
theorem eq_word (l u : Fin 2048) : FloatOps.sitofp (F := Ideal) .f32
      (BitVec.setWidth 32 (IntOp.cmpi .eq (BitVec.ofNat 32 l.val) (BitVec.ofNat 32 u.val)))
    = (((if l = u then 1 else 0 : ℝ) : ℝ) : EReal) := by
  by_cases h : l = u
  · subst h
    have e : IntOp.cmpi .eq (BitVec.ofNat 32 l.val) (BitVec.ofNat 32 l.val) = 1#1 :=
      (congrArg BitVec.ofBool (decide_eq_true (rfl : BitVec.ofNat 32 l.val = BitVec.ofNat 32 l.val)) :)
    rw [e, if_pos rfl]
    have e2 : (BitVec.setWidth 32 1#1).toInt = 1 := by decide
    show (((BitVec.setWidth 32 1#1).toInt : ℝ) : EReal) = _
    rw [e2]; simp
  · have hne : BitVec.ofNat 32 l.val ≠ BitVec.ofNat 32 u.val := fun e => h (by
      have := congrArg BitVec.toInt e
      rw [toInt_pos, toInt_pos] at this
      exact Fin.ext (by exact_mod_cast this))
    have e : IntOp.cmpi .eq (BitVec.ofNat 32 l.val) (BitVec.ofNat 32 u.val) = 0#1 :=
      (congrArg BitVec.ofBool (decide_eq_false hne) :)
    rw [e, if_neg h]
    have e2 : (BitVec.setWidth 32 0#1).toInt = 0 := by decide
    show (((BitVec.setWidth 32 0#1).toInt : ℝ) : EReal) = _
    rw [e2]; simp

/-- The indicator of the first position of a largest entry. -/
theorem hot_at (g : FArr S2048x1) (G : Fin 2048 → ℝ) (hg : ∀ l, g (ix2 l 0) = ((G l : ℝ) : EReal)) (u : Fin 2048)
    (hu : IsFirst G u) (l : Fin 2048) :
    k0_pay39 g (iota .tc S2048x1 32 [0] iota_S2048x1_d0_w32) ((G u : ℝ) : EReal) (ix2 l 0)
      = (((if l = u then 1 else 0 : ℝ) : ℝ) : EReal) := by
  rw [hot_read, first_word G u hu, eq_word]
  · intro x h
    rw [if_pos (by rw [hg]; exact EReal.coe_le_coe_iff.mpr h)]
  · intro x h
    rw [if_neg (by rw [hg]; exact fun e => h (EReal.coe_le_coe_iff.mp e))]

end Cert.KernelIdeal.Head
-- ==== Proof.HeadExp.lean ====
/-
  The exponentials of the chosen query's scores.
-/
module

public import proofs.«01_k».proof.Proof.HeadDefs
public import proofs.«01_k».proof.Proof.Spec
public import Idealize.ShloMosaic.Lib.Pointwise

@[expose] public section

set_option maxRecDepth 16384
set_option maxHeartbeats 4000000

noncomputable section

namespace Cert.KernelIdeal.Head

open Cert.KernelIdeal Cert.KernelIdeal.Gen Idealize.ShloMosaic Cert.Reals Cert.Tables Cert.Spec
open scoped BigOperators

/-- An exponential, with the sums spelled out. -/
theorem exp_read (q k : FArr S64x2048) (h : FArr S2048x1) (s : Fin 2048) :
    k0_pay43 q k h (ix2 0 s) = Ideal.exp ((∑ d, (∑ l, q (ix2 d l) * h (ix2 l 0)) * k (ix2 d s)) * Ideal.ofBits .f32 0x3E000000#32
      - (Finset.univ : Finset (Fin 1 × Fin 2048)).fold max (Ideal.ofBits .f32 0xFF800000#32)
          (fun x => (∑ d, (∑ l, q (ix2 d l) * h (ix2 l 0)) * k (ix2 d x.2)) * Ideal.ofBits .f32 0x3E000000#32)) := by
  pointwise [k0_pay43]

/-- The exponentials of the chosen query's scores. -/
theorem exp_at (q k : FArr S64x2048) (h : FArr S2048x1) (Q K : Fin 2048 → Fin 64 → ℝ)
    (hq : ∀ d l, q (ix2 d l) = ((Q l d : ℝ) : EReal)) (hk : ∀ d l, k (ix2 d l) = ((K l d : ℝ) : EReal)) (u : Fin 2048)
    (hh : ∀ l, h (ix2 l 0) = (((if l = u then 1 else 0 : ℝ) : ℝ) : EReal)) (s : Fin 2048) :
    k0_pay43 q k h (ix2 0 s) = ((expo (fun s => (∑ d, Q u d * K s d) / 8) s : ℝ) : EReal) := by
  have e1 : ∀ d, ∑ l, q (ix2 d l) * h (ix2 l 0) = ((Q u d : ℝ) : EReal) := fun d => by
    simp only [hq, hh]
    rw [dot_coe]
    simp
  have e2 : ∀ s, (∑ d, (∑ l, q (ix2 d l) * h (ix2 l 0)) * k (ix2 d s)) * Ideal.ofBits .f32 0x3E000000#32
      = (((∑ d, Q u d * K s d) / 8 : ℝ) : EReal) := fun s => by
    simp only [e1, hk]
    rw [dot_coe, ofBits_eighth, ← EReal.coe_mul, mul_one_div]
  rw [exp_read]
  simp only [e2]
  rw [ofBits_negInf, fold_max_coe, ← EReal.coe_sub, Ideal.exp_coe]
  refine congrArg _ ?_
  unfold expo
  rw [eq_top (fun x : Fin 1 × Fin 2048 => (∑ d, Q u d * K x.2 d) / 8) _
    (fun x => le_top (fun s => (∑ d, Q u d * K s d) / 8) x.2)
    (0, (exists_top (fun s => (∑ d, Q u d * K s d) / 8)).choose) (exists_top (fun s => (∑ d, Q u d * K s d) / 8)).choose_spec]

end Cert.KernelIdeal.Head
-- ==== Proof.HeadCtx.lean ====
/-
  The context row of one head from its exponentials.
-/
module

public import proofs.«01_k».proof.Proof.HeadDefs
public import proofs.«01_k».proof.Proof.Spec
public import Idealize.ShloMosaic.Lib.Pointwise

@[expose] public section

set_option maxRecDepth 16384
set_option maxHeartbeats 4000000

noncomputable section

namespace Cert.KernelIdeal.Head

open Cert.KernelIdeal Cert.KernelIdeal.Gen Idealize.ShloMosaic Cert.Reals Cert.Tables Cert.Spec
open scoped BigOperators

/-- The context from the exponentials. -/
theorem ctx_at (x : FArr S2048x1024) (e : FArr S1x2048) (wv : FArr S1x64x1024) (bv : FArr S1x1x64)
    (X : Fin 2048 → Fin 1024 → ℝ) (E : Fin 2048 → ℝ) (W : Fin 64 → Fin 1024 → ℝ) (B : Fin 64 → EReal)
    (hx : ∀ l c, x (ix2 l c) = ((X l c : ℝ) : EReal)) (he : ∀ s, e (ix2 0 s) = ((E s : ℝ) : EReal))
    (hw : ∀ d c, wv (ix3 0 d c) = ((W d c : ℝ) : EReal)) (hb : ∀ d, bv (ix3 0 0 d) = B d)
    (h0 : ∑ s, E s ≠ 0) (d : Fin 64) :
    k0_pay49 x e wv bv (ix2 0 d) = ((∑ c, (∑ s, E s / (∑ a, E a) * X s c) * W d c : ℝ) : EReal) + B d := by
  have h1 : k0_pay49 x e wv bv (ix2 0 d) = ∑ c, (∑ s, Ideal.div (e (ix2 0 s)) (∑ a, e (ix2 0 a)) * x (ix2 s c))
      * wv (ix3 0 d c) + bv (ix3 0 0 d) := by
    pointwise [k0_pay49]
    simp only [Finset.sum_const, Finset.card_univ, Fintype.card_fin, one_smul]
  have h2 : ∑ a, e (ix2 0 a) = ((∑ a, E a : ℝ) : EReal) := by rw [← sum_coe]; simp only [he]
  have h3 : ∀ c, ∑ s, Ideal.div (e (ix2 0 s)) (∑ a, e (ix2 0 a)) * x (ix2 s c)
      = ((∑ s, E s / (∑ a, E a) * X s c : ℝ) : EReal) := fun c => by
    rw [← dot_coe, h2]
    simp only [he, hx, div_coe _ _ h0]
  rw [h1, hb, ← dot_coe]
  simp only [h3, hw]

end Cert.KernelIdeal.Head
-- ==== Proof.Gain.lean ====
/-
  The measure the kernel computes, a maximum over all keys with the unsampled ones masked out less a weighted mean, is the
  measure over the sampled keys.
-/
module

public import proofs.«01_k».proof.Proof.Spec

@[expose] public section

noncomputable section

namespace Cert.Spec

open Cert.Reals Cert.Tables
open scoped BigOperators

/-- The masked maximum less the weighted mean is the sampled maximum less the sampled mean, for products the mask outweighs. -/
theorem gain_eq (Q K : Fin 2048 → Fin 64 → ℝ) (M : Fin 2048 → ℝ) (h0 : ∀ j : Fin 2048, count j ≠ 0 → M j = 0)
    (h1 : ∀ j : Fin 2048, count j = 0 → M j ≤ -(9 * 10 ^ 29)) (l : Fin 2048) (hb : ∀ j, |∑ d, Q l d * K j d| ≤ 4 * 10 ^ 29) :
    top (fun j => ∑ d, Q l d * K j d + M j) - ∑ d, Q l d * ∑ j, K j d * ((count j : ℝ) / 4096) = gain Q K l := by
  unfold gain
  refine congrArg₂ (· - ·) ?_ ?_
  · have hle := fun s => le_top (fun s => ∑ d, Q l d * K (row s) d) s
    obtain ⟨s, hs⟩ := exists_top (fun s => ∑ d, Q l d * K (row s) d)
    refine eq_top _ _ (fun j => ?_) (row s) ?_
    · by_cases hj : count j = 0
      · have a := h1 j hj
        have b := (abs_le.mp (hb j)).2
        have c := (abs_le.mp (hb (row s))).1
        have d := hle s
        linarith
      · obtain ⟨x, rfl⟩ := exists_row j hj
        rw [h0 _ hj, add_zero]
        exact hle x
    · rw [h0 _ (count_row s), add_zero]
      exact hs
  · rw [sum_row (fun j => ∑ d, Q l d * K j d), Finset.sum_div]
    simp only [Finset.mul_sum, Finset.sum_div]
    rw [Finset.sum_comm]
    refine Finset.sum_congr rfl fun j _ => Finset.sum_congr rfl fun d _ => ?_
    ring

/-- A linear layer of bounded arguments is bounded. -/
theorem proj_le (X : Fin 2048 → Fin 1024 → ℝ) (W : Fin 1024 → Fin 1024 → ℝ) (B : Fin 1024 → ℝ)
    (hX : ∀ l c, |X l c| ≤ 100000) (hW : ∀ n c, |W n c| ≤ 100000) (hB : ∀ n, |B n| ≤ 100000) (l : Fin 2048) (n : Fin 1024) :
    |proj X W B l n| ≤ 2 * 10 ^ 13 := by
  have h : |∑ c, X l c * W n c| ≤ ∑ _c : Fin 1024, (100000 * 100000 : ℝ) :=
    (Finset.abs_sum_le_sum_abs _ _).trans (Finset.sum_le_sum fun c _ => by
      rw [abs_mul]; exact mul_le_mul (hX l c) (hW n c) (abs_nonneg _) (by norm_num))
  rw [Finset.sum_const, Finset.card_univ, Fintype.card_fin, nsmul_eq_mul] at h
  have h2 := abs_add_le (∑ c, X l c * W n c) (B n)
  have h3 := hB n
  unfold proj
  norm_num at h ⊢
  linarith

/-- The products of bounded queries and keys are bounded. -/
theorem dot_le (Q K : Fin 2048 → Fin 64 → ℝ) (hQ : ∀ l d, |Q l d| ≤ 2 * 10 ^ 13) (hK : ∀ l d, |K l d| ≤ 2 * 10 ^ 13)
    (l j : Fin 2048) : |∑ d, Q l d * K j d| ≤ 4 * 10 ^ 29 := by
  have h : |∑ d, Q l d * K j d| ≤ ∑ _d : Fin 64, (2 * 10 ^ 13 * (2 * 10 ^ 13) : ℝ) :=
    (Finset.abs_sum_le_sum_abs _ _).trans (Finset.sum_le_sum fun d _ => by
      rw [abs_mul]; exact mul_le_mul (hQ l d) (hK j d) (abs_nonneg _) (by norm_num))
  rw [Finset.sum_const, Finset.card_univ, Fintype.card_fin, nsmul_eq_mul] at h
  norm_num at h ⊢
  linarith

/-- Mixing the sequence before the value layer is mixing its values. -/
theorem mix_eq (P : Fin 2048 → ℝ) (X : Fin 2048 → Fin 1024 → ℝ) (W : Fin 1024 → ℝ) :
    ∑ c, (∑ s, P s * X s c) * W c = ∑ s, P s * ∑ c, X s c * W c := by
  simp only [Finset.mul_sum, Finset.sum_mul]
  rw [Finset.sum_comm]
  simp only [mul_assoc]

end Cert.Spec
-- ==== Proof.HeadAt.lean ====
/-
  The context row of one head, over real arguments, is the specification's.
-/
module

public import proofs.«01_k».proof.Proof.HeadGain
public import proofs.«01_k».proof.Proof.HeadHot
public import proofs.«01_k».proof.Proof.HeadExp
public import proofs.«01_k».proof.Proof.HeadCtx
public import proofs.«01_k».proof.Proof.Gain

@[expose] public section

set_option maxRecDepth 16384

noncomputable section

namespace Cert.KernelIdeal.Head

open Cert.KernelIdeal Cert.KernelIdeal.Gen Idealize.ShloMosaic Cert.Reals Cert.Tables Cert.Spec
open scoped BigOperators

/-- The exponentials of one head, over real queries and keys. -/
theorem expT_at (q k : FArr S64x2048) (w : FArr S2048x1) (mb : FArr S1x2048) (Q K : Fin 2048 → Fin 64 → ℝ) (M : Fin 2048 → ℝ)
    (hq : ∀ d l, q (ix2 d l) = ((Q l d : ℝ) : EReal)) (hk : ∀ d l, k (ix2 d l) = ((K l d : ℝ) : EReal))
    (hm : ∀ l, mb (ix2 0 l) = ((M l : ℝ) : EReal)) (hw : ∀ l : Fin 2048, w (ix2 l 0) = (((count l : ℝ) / 4096 : ℝ) : EReal))
    (h0 : ∀ j : Fin 2048, count j ≠ 0 → M j = 0) (h1 : ∀ j : Fin 2048, count j = 0 → M j ≤ -(9 * 10 ^ 29))
    (hb : ∀ l j, |∑ d, Q l d * K j d| ≤ 4 * 10 ^ 29) (s : Fin 2048) :
    expT iotaT q k w mb (ix2 0 s) = ((expo (score Q K) s : ℝ) : EReal) := by
  have hg : ∀ l, gainT q k w mb (ix2 l 0) = ((gain Q K l : ℝ) : EReal) := fun l => by
    rw [gainT_at q k w mb Q K _ M hq hk hm hw l, gain_eq Q K M h0 h1 l (hb l)]
  have hu := pick_isFirst Q K
  have hh : ∀ l, hotT iotaT q k w mb (ix2 l 0) = (((if l = pick Q K then 1 else 0 : ℝ) : ℝ) : EReal) := fun l => by
    unfold hotT iotaT
    rw [bestT_at q k w mb (gain Q K) hg _ hu]
    exact hot_at _ (gain Q K) hg _ hu l
  exact exp_at q k _ Q K hq hk _ hh s

/-- The context of one head from its softmax quotients, mixed before or after the value layer. -/
theorem mix_soft (Z : Fin 2048 → ℝ) (X : Fin 2048 → Fin 1024 → ℝ) (W : Fin 1024 → ℝ) :
    ∑ c, (∑ s, expo Z s / (∑ a, expo Z a) * X s c) * W c = ∑ s, soft Z s * ∑ c, X s c * W c := by
  rw [← mix_eq (soft Z) X W]
  unfold soft
  rfl

/-- One head's context, from its slabs of the weights and biases. -/
theorem headT_at (x : FArr S2048x1024) (wq wk wv : FArr S1x64x1024) (bq bk : FArr S1x64x1) (bv : FArr S1x1x64)
    (w : FArr S2048x1) (mb : FArr S1x2048)
    (X : Fin 2048 → Fin 1024 → ℝ) (Wq Wk Wv : Fin 1024 → Fin 1024 → ℝ) (Bq Bk : Fin 1024 → ℝ)
    (Bv : Fin 1024 → EReal) (M : Fin 2048 → ℝ) (h : Fin 16)
    (hx : ∀ l c, x (ix2 l c) = ((X l c : ℝ) : EReal))
    (hwq : ∀ d c, wq (ix3 0 d c) = ((Wq (col h d) c : ℝ) : EReal)) (hbq : ∀ d, bq (ix3 0 d 0) = ((Bq (col h d) : ℝ) : EReal))
    (hwk : ∀ d c, wk (ix3 0 d c) = ((Wk (col h d) c : ℝ) : EReal)) (hbk : ∀ d, bk (ix3 0 d 0) = ((Bk (col h d) : ℝ) : EReal))
    (hwv : ∀ d c, wv (ix3 0 d c) = ((Wv (col h d) c : ℝ) : EReal)) (hbv : ∀ d, bv (ix3 0 0 d) = Bv (col h d))
    (hm : ∀ l, mb (ix2 0 l) = ((M l : ℝ) : EReal)) (hw : ∀ l : Fin 2048, w (ix2 l 0) = (((count l : ℝ) / 4096 : ℝ) : EReal))
    (h0 : ∀ j : Fin 2048, count j ≠ 0 → M j = 0) (h1 : ∀ j : Fin 2048, count j = 0 → M j ≤ -(9 * 10 ^ 29))
    (bX : ∀ l c, |X l c| ≤ 100000) (bWq : ∀ n c, |Wq n c| ≤ 100000) (bBq : ∀ n, |Bq n| ≤ 100000)
    (bWk : ∀ n c, |Wk n c| ≤ 100000) (bBk : ∀ n, |Bk n| ≤ 100000) (d : Fin 64) :
    headT iotaT x wq wk wv bq bk bv w mb (ix2 0 d) = headCtx X Wq Wk Wv Bq Bk Bv h d := by
  have hq : ∀ d l, qT x wq wk bq bk (ix2 d l) = ((head X Wq Bq h l d : ℝ) : EReal) := fun d l =>
    qT_at x wq wk bq bk X (fun d c => Wq (col h d) c) (fun d => Bq (col h d)) hx hwq hbq d l
  have hk : ∀ d l, kT x wq wk bq bk (ix2 d l) = ((head X Wk Bk h l d : ℝ) : EReal) := fun d l =>
    kT_at x wq wk bq bk X (fun d c => Wk (col h d) c) (fun d => Bk (col h d)) hx hwk hbk d l
  have hQ : ∀ l d, |head X Wq Bq h l d| ≤ 2 * 10 ^ 13 := fun l d => by
    unfold head
    exact proj_le X Wq Bq bX bWq bBq l (col h d)
  have hK : ∀ l d, |head X Wk Bk h l d| ≤ 2 * 10 ^ 13 := fun l d => by
    unfold head
    exact proj_le X Wk Bk bX bWk bBk l (col h d)
  have he : ∀ s, expT iotaT (qT x wq wk bq bk) (kT x wq wk bq bk) w mb (ix2 0 s)
      = ((expo (score (head X Wq Bq h) (head X Wk Bk h)) s : ℝ) : EReal) := fun s =>
    expT_at (qT x wq wk bq bk) (kT x wq wk bq bk) w mb (head X Wq Bq h) (head X Wk Bk h) M hq hk hm hw h0 h1
      (dot_le (head X Wq Bq h) (head X Wk Bk h) hQ hK) s
  have hc := ctx_at x (expT iotaT (qT x wq wk bq bk) (kT x wq wk bq bk) w mb) wv bv X
    (expo (score (head X Wq Bq h) (head X Wk Bk h))) (fun d c => Wv (col h d) c) (fun d => Bv (col h d)) hx he hwv hbv
    (sum_expo_ne (score (head X Wq Bq h) (head X Wk Bk h))) d
  rw [mix_soft] at hc
  unfold headT headCtx ctx
  rw [hc]
  refine congrArg (fun r : ℝ => (r : EReal) + Bv (col h d)) (Finset.sum_congr rfl fun s _ => congrArg _ ?_)
  unfold head proj
  exact (add_zero _).symm

end Cert.KernelIdeal.Head
-- ==== Proof.Part.lean ====
/-
  The row a grid point adds: four heads' contexts through their block of the output layer.
-/
module

public import proofs.«01_k».proof.Proof.HeadDefs
public import proofs.«01_k».proof.Proof.Reals
public import Idealize.ShloMosaic.Lib.Pointwise

@[expose] public section

set_option maxRecDepth 16384

noncomputable section

namespace Cert.KernelIdeal.Head

open Cert.KernelIdeal Cert.KernelIdeal.Gen Idealize.ShloMosaic Cert.Reals
open scoped BigOperators

/-- Four heads' contexts side by side. -/
def catT (h0 h1 h2 h3 : FArr S1x64) : FArr S1x256 :=
  concatenate S1x256 1 [⟨S1x64, h0⟩, ⟨S1x64, h1⟩, ⟨S1x64, h2⟩, ⟨S1x64, h3⟩] concatenates_S1x64_S1x64_S1x64_S1x64_S1x256_d1

variable (h0 h1 h2 h3 : FArr S1x64)

theorem cat0 (d : Fin 64) : catT h0 h1 h2 h3 (ix2 0 ⟨d.val, by omega⟩) = h0 (ix2 0 d) := by
  pointwise [catT]
theorem cat1 (d : Fin 64) : catT h0 h1 h2 h3 (ix2 0 ⟨64 + d.val, by omega⟩) = h1 (ix2 0 d) := by
  pointwise [catT]
theorem cat2 (d : Fin 64) : catT h0 h1 h2 h3 (ix2 0 ⟨128 + d.val, by omega⟩) = h2 (ix2 0 d) := by
  pointwise [catT]
  rw [dif_neg (by omega), dif_neg (by omega), dif_pos (by omega)]
  exact congrArg _ (congrArg _ (Fin.ext (by dsimp only; omega)))
theorem cat3 (d : Fin 64) : catT h0 h1 h2 h3 (ix2 0 ⟨192 + d.val, by omega⟩) = h3 (ix2 0 d) := by
  pointwise [catT]
  rw [dif_neg (by omega), dif_neg (by omega), dif_neg (by omega)]
  exact congrArg _ (congrArg _ (Fin.ext (by dsimp only; omega)))

/-- An entry of the side by side contexts belongs to the head its position falls into. -/
theorem cat_at (H : Fin 4 → Fin 64 → EReal) (e0 : ∀ d, h0 (ix2 0 d) = H 0 d) (e1 : ∀ d, h1 (ix2 0 d) = H 1 d)
    (e2 : ∀ d, h2 (ix2 0 d) = H 2 d) (e3 : ∀ d, h3 (ix2 0 d) = H 3 d) (c : Fin 256) :
    catT h0 h1 h2 h3 (ix2 0 c) = H ⟨c.val / 64, by omega⟩ ⟨c.val % 64, by omega⟩ := by
  have hc := c.isLt
  have h : c.val / 64 = 0 ∨ c.val / 64 = 1 ∨ c.val / 64 = 2 ∨ c.val / 64 = 3 := by omega
  rcases h with h | h | h | h
  · have k : c = ⟨(⟨c.val % 64, by omega⟩ : Fin 64).val, by dsimp only; omega⟩ := Fin.ext (by dsimp only; omega)
    have k2 : (⟨c.val / 64, by omega⟩ : Fin 4) = 0 := Fin.ext h
    rw [k2, ← e0, ← cat0 h0 h1 h2 h3, ← k]
  · have k : c = ⟨64 + (⟨c.val % 64, by omega⟩ : Fin 64).val, by dsimp only; omega⟩ := Fin.ext (by dsimp only; omega)
    have k2 : (⟨c.val / 64, by omega⟩ : Fin 4) = 1 := Fin.ext h
    rw [k2, ← e1, ← cat1 h0 h1 h2 h3, ← k]
  · have k : c = ⟨128 + (⟨c.val % 64, by omega⟩ : Fin 64).val, by dsimp only; omega⟩ := Fin.ext (by dsimp only; omega)
    have k2 : (⟨c.val / 64, by omega⟩ : Fin 4) = 2 := Fin.ext h
    rw [k2, ← e2, ← cat2 h0 h1 h2 h3, ← k]
  · have k : c = ⟨192 + (⟨c.val % 64, by omega⟩ : Fin 64).val, by dsimp only; omega⟩ := Fin.ext (by dsimp only; omega)
    have k2 : (⟨c.val / 64, by omega⟩ : Fin 4) = 3 := Fin.ext h
    rw [k2, ← e3, ← cat3 h0 h1 h2 h3, ← k]

/-- A row through a block of the output layer. -/
def layerT (a : FArr S1x256) (wo : FArr S1024x256) : FArr S1x1024 :=
  matmul dot_S1x256_S1024x256_S1x1024_1_1_0_0_n_n none a wo (constant S1x1024 .f32 0x00000000#32)

theorem layer_read (a : FArr S1x256) (wo : FArr S1024x256) (n : Fin 1024) :
    layerT a wo (ix2 0 n) = ∑ c : Fin 256, a (ix2 0 c) * wo (ix2 n c) := by
  pointwise [layerT]

/-- The point's row is its contexts' row through the block. -/
theorem part_layer (wo : FArr S1024x256) : partT h0 h1 h2 h3 wo = layerT (catT h0 h1 h2 h3) wo := rfl

/-- The point's row at an index. -/
theorem partT_at (wo : FArr S1024x256) (H : Fin 4 → Fin 64 → EReal) (W : Fin 1024 → Fin 256 → EReal)
    (e0 : ∀ d, h0 (ix2 0 d) = H 0 d) (e1 : ∀ d, h1 (ix2 0 d) = H 1 d)
    (e2 : ∀ d, h2 (ix2 0 d) = H 2 d) (e3 : ∀ d, h3 (ix2 0 d) = H 3 d)
    (hw : ∀ n c, wo (ix2 n c) = W n c) (n : Fin 1024) :
    partT h0 h1 h2 h3 wo (ix2 0 n) = ∑ c : Fin 256, H ⟨c.val / 64, by omega⟩ ⟨c.val % 64, by omega⟩ * W n c := by
  rw [part_layer, layer_read]
  exact Finset.sum_congr rfl fun c _ => congrArg₂ (· * ·) (cat_at h0 h1 h2 h3 H e0 e1 e2 e3 c) (hw n c)

end Cert.KernelIdeal.Head
-- ==== Proof.Point.lean ====
/-
  The row of one grid point, as the specification has it.
-/
module

public import proofs.«01_k».proof.Proof.HeadAt
public import proofs.«01_k».proof.Proof.Part
public import proofs.«01_k».proof.Proof.Body

@[expose] public section

set_option maxRecDepth 16384

noncomputable section

namespace Cert.Spec

open scoped BigOperators

/-- What the four heads of grid point `t` add to entry `n` of the output row. -/
def share (X : Fin 2048 → Fin 1024 → ℝ) (Wq Wk Wv : Fin 1024 → Fin 1024 → ℝ) (Wo : Fin 1024 → Fin 1024 → EReal)
    (Bq Bk : Fin 1024 → ℝ) (Bv : Fin 1024 → EReal) (t : Fin 4) (n : Fin 1024) : EReal :=
  ∑ k : Fin 256, headCtx X Wq Wk Wv Bq Bk Bv ⟨t.val * 4 + k.val / 64, by omega⟩ ⟨k.val % 64, by omega⟩
    * Wo n ⟨t.val * 256 + k.val, by omega⟩

/-- The four points' shares and the bias are the output row. -/
theorem sum_share (X : Fin 2048 → Fin 1024 → ℝ) (Wq Wk Wv : Fin 1024 → Fin 1024 → ℝ) (Wo : Fin 1024 → Fin 1024 → EReal)
    (Bq Bk : Fin 1024 → ℝ) (Bv Bo : Fin 1024 → EReal) (n : Fin 1024) :
    share X Wq Wk Wv Wo Bq Bk Bv 0 n + share X Wq Wk Wv Wo Bq Bk Bv 1 n + share X Wq Wk Wv Wo Bq Bk Bv 2 n
      + share X Wq Wk Wv Wo Bq Bk Bv 3 n + Bo n = out X Wq Wk Wv Wo Bq Bk Bv Bo n := by
  unfold out
  refine congrArg (· + Bo n) ?_
  have h := Fin.sum_univ_four fun t : Fin 4 => share X Wq Wk Wv Wo Bq Bk Bv t n
  refine h.symm.trans ?_
  unfold share
  rw [← Fintype.sum_prod_type' (fun (t : Fin 4) (k : Fin 256) => headCtx X Wq Wk Wv Bq Bk Bv ⟨t.val * 4 + k.val / 64, by omega⟩
    ⟨k.val % 64, by omega⟩ * Wo n ⟨t.val * 256 + k.val, by omega⟩)]
  refine Fintype.sum_equiv (finProdFinEquiv (m := 4) (n := 256)) _ _ fun x => ?_
  obtain ⟨t, k⟩ := x
  have e : (finProdFinEquiv (m := 4) (n := 256) (t, k)).val = k.val + 256 * t.val := rfl
  have e1 : (⟨t.val * 4 + k.val / 64, by omega⟩ : Fin 16) = ⟨(finProdFinEquiv (m := 4) (n := 256) (t, k)).val / 64, by rw [e]; omega⟩ :=
    Fin.ext (by dsimp only; rw [e]; omega)
  have e2 : (⟨k.val % 64, by omega⟩ : Fin 64) = ⟨(finProdFinEquiv (m := 4) (n := 256) (t, k)).val % 64, by omega⟩ :=
    Fin.ext (by dsimp only; rw [e]; omega)
  have e3 : (⟨t.val * 256 + k.val, by omega⟩ : Fin 1024) = finProdFinEquiv (m := 4) (n := 256) (t, k) :=
    Fin.ext (by dsimp only; rw [e]; omega)
  exact congrArg₂ (· * ·) (congrArg₂ (headCtx X Wq Wk Wv Bq Bk Bv) e1 e2) (congrArg (Wo n) e3)

end Cert.Spec

namespace Cert.KernelIdeal.Body

open Cert.KernelIdeal Cert.KernelIdeal.Gen Cert.KernelIdeal.Head Idealize.ShloMosaic Cert.Reals Cert.Tables Cert.Spec
open scoped BigOperators

/-- A head's slab of a block of weights. -/
theorem slabW (x : FArr S4x64x1024) (i : Fin 4) (h : ∀ a, (![i.val, 0, 0] : Fin 3 → ℕ) a + (![1, 64, 1024] : Fin 3 → ℕ) a ≤ S4x64x1024.size a)
    (d : Fin 64) (k : Fin 1024) :
    View.ld (Val := Elt Ideal) (e' := .f32) x (Rect.unit ![i.val, 0, 0] ![1, 64, 1024] h) (ix3 0 d k) = x (ix3 i d k) :=
  congrArg x (funext fun a => Fin.ext (match a with
    | ⟨0, _⟩ => by show i.val + 1 * 0 = i.val; omega
    | ⟨1, _⟩ => by show 0 + 1 * d.val = d.val; omega
    | ⟨2, _⟩ => by show 0 + 1 * k.val = k.val; omega))

/-- A head's column of a block of biases. -/
theorem slabC (x : FArr S4x64x1) (i : Fin 4) (h : ∀ a, (![i.val, 0, 0] : Fin 3 → ℕ) a + (![1, 64, 1] : Fin 3 → ℕ) a ≤ S4x64x1.size a)
    (d : Fin 64) :
    View.ld (Val := Elt Ideal) (e' := .f32) x (Rect.unit ![i.val, 0, 0] ![1, 64, 1] h) (ix3 0 d 0) = x (ix3 i d 0) :=
  congrArg x (funext fun a => Fin.ext (match a with
    | ⟨0, _⟩ => by show i.val + 1 * 0 = i.val; omega
    | ⟨1, _⟩ => by show 0 + 1 * d.val = d.val; omega
    | ⟨2, _⟩ => by show 0 + 1 * 0 = 0; omega))

/-- A head's row of a block of biases. -/
theorem slabR (x : FArr S4x1x64) (i : Fin 4) (h : ∀ a, (![i.val, 0, 0] : Fin 3 → ℕ) a + (![1, 1, 64] : Fin 3 → ℕ) a ≤ S4x1x64.size a)
    (d : Fin 64) :
    View.ld (Val := Elt Ideal) (e' := .f32) x (Rect.unit ![i.val, 0, 0] ![1, 1, 64] h) (ix3 0 0 d) = x (ix3 i 0 d) :=
  congrArg x (funext fun a => Fin.ext (match a with
    | ⟨0, _⟩ => by show i.val + 1 * 0 = i.val; omega
    | ⟨1, _⟩ => by show 0 + 1 * 0 = 0; omega
    | ⟨2, _⟩ => by show 0 + 1 * d.val = d.val; omega))

/-- The row of a grid point at an index. -/
theorem pointT_at (x0 : FArr S2048x1024) (x1 x2 x3 : FArr S4x64x1024) (x4 x5 : FArr S4x64x1) (x6 : FArr S4x1x64)
    (x7 : FArr S2048x1) (x8 : FArr S1x2048) (x9 : FArr S1024x256) (t : Fin 4)
    (X : Fin 2048 → Fin 1024 → ℝ) (Wq Wk Wv : Fin 1024 → Fin 1024 → ℝ) (Wo : Fin 1024 → Fin 1024 → EReal)
    (Bq Bk : Fin 1024 → ℝ) (Bv : Fin 1024 → EReal) (M : Fin 2048 → ℝ)
    (e0 : ∀ l k, x0 (ix2 l k) = ((X l k : ℝ) : EReal))
    (e1 : ∀ (i : Fin 4) d k, x1 (ix3 i d k) = ((Wq (col ⟨t.val * 4 + i.val, by omega⟩ d) k : ℝ) : EReal))
    (e2 : ∀ (i : Fin 4) d k, x2 (ix3 i d k) = ((Wk (col ⟨t.val * 4 + i.val, by omega⟩ d) k : ℝ) : EReal))
    (e3 : ∀ (i : Fin 4) d k, x3 (ix3 i d k) = ((Wv (col ⟨t.val * 4 + i.val, by omega⟩ d) k : ℝ) : EReal))
    (e4 : ∀ (i : Fin 4) d, x4 (ix3 i d 0) = ((Bq (col ⟨t.val * 4 + i.val, by omega⟩ d) : ℝ) : EReal))
    (e5 : ∀ (i : Fin 4) d, x5 (ix3 i d 0) = ((Bk (col ⟨t.val * 4 + i.val, by omega⟩ d) : ℝ) : EReal))
    (e6 : ∀ (i : Fin 4) d, x6 (ix3 i 0 d) = Bv (col ⟨t.val * 4 + i.val, by omega⟩ d))
    (e7 : ∀ l : Fin 2048, x7 (ix2 l 0) = (((count l : ℝ) / 4096 : ℝ) : EReal))
    (e8 : ∀ l, x8 (ix2 0 l) = ((M l : ℝ) : EReal))
    (e9 : ∀ (n : Fin 1024) (k : Fin 256), x9 (ix2 n k) = Wo n ⟨t.val * 256 + k.val, by omega⟩)
    (h0 : ∀ j : Fin 2048, count j ≠ 0 → M j = 0) (h1 : ∀ j : Fin 2048, count j = 0 → M j ≤ -(9 * 10 ^ 29))
    (bX : ∀ l c, |X l c| ≤ 100000) (bWq : ∀ n c, |Wq n c| ≤ 100000) (bBq : ∀ n, |Bq n| ≤ 100000)
    (bWk : ∀ n c, |Wk n c| ≤ 100000) (bBk : ∀ n, |Bk n| ≤ 100000) (n : Fin 1024) :
    pointT x0 x1 x2 x3 x4 x5 x6 x7 x8 x9 (ix2 0 n) = share X Wq Wk Wv Wo Bq Bk Bv t n := by
  have c0 := headT_at x0
    (View.ld (Val := Elt Ideal) (e' := .f32) x1 (Rect.unit ![0, 0, 0] ![1, 64, 1024] inb_S4x64x1024_S1x64x1024_0_0_0))
    (View.ld (Val := Elt Ideal) (e' := .f32) x2 (Rect.unit ![0, 0, 0] ![1, 64, 1024] inb_S4x64x1024_S1x64x1024_0_0_0))
    (View.ld (Val := Elt Ideal) (e' := .f32) x3 (Rect.unit ![0, 0, 0] ![1, 64, 1024] inb_S4x64x1024_S1x64x1024_0_0_0))
    (View.ld (Val := Elt Ideal) (e' := .f32) x4 (Rect.unit ![0, 0, 0] ![1, 64, 1] inb_S4x64x1_S1x64x1_0_0_0))
    (View.ld (Val := Elt Ideal) (e' := .f32) x5 (Rect.unit ![0, 0, 0] ![1, 64, 1] inb_S4x64x1_S1x64x1_0_0_0))
    (View.ld (Val := Elt Ideal) (e' := .f32) x6 (Rect.unit ![0, 0, 0] ![1, 1, 64] inb_S4x1x64_S1x1x64_0_0_0))
    x7 x8 X Wq Wk Wv Bq Bk Bv M ⟨t.val * 4 + 0, by omega⟩ e0
    (fun d k => (slabW x1 0 inb_S4x64x1024_S1x64x1024_0_0_0 d k).trans (e1 0 d k))
    (fun d => (slabC x4 0 inb_S4x64x1_S1x64x1_0_0_0 d).trans (e4 0 d))
    (fun d k => (slabW x2 0 inb_S4x64x1024_S1x64x1024_0_0_0 d k).trans (e2 0 d k))
    (fun d => (slabC x5 0 inb_S4x64x1_S1x64x1_0_0_0 d).trans (e5 0 d))
    (fun d k => (slabW x3 0 inb_S4x64x1024_S1x64x1024_0_0_0 d k).trans (e3 0 d k))
    (fun d => (slabR x6 0 inb_S4x1x64_S1x1x64_0_0_0 d).trans (e6 0 d))
    e8 e7 h0 h1 bX bWq bBq bWk bBk
  have c1 := headT_at x0
    (View.ld (Val := Elt Ideal) (e' := .f32) x1 (Rect.unit ![1, 0, 0] ![1, 64, 1024] inb_S4x64x1024_S1x64x1024_1_0_0))
    (View.ld (Val := Elt Ideal) (e' := .f32) x2 (Rect.unit ![1, 0, 0] ![1, 64, 1024] inb_S4x64x1024_S1x64x1024_1_0_0))
    (View.ld (Val := Elt Ideal) (e' := .f32) x3 (Rect.unit ![1, 0, 0] ![1, 64, 1024] inb_S4x64x1024_S1x64x1024_1_0_0))
    (View.ld (Val := Elt Ideal) (e' := .f32) x4 (Rect.unit ![1, 0, 0] ![1, 64, 1] inb_S4x64x1_S1x64x1_1_0_0))
    (View.ld (Val := Elt Ideal) (e' := .f32) x5 (Rect.unit ![1, 0, 0] ![1, 64, 1] inb_S4x64x1_S1x64x1_1_0_0))
    (View.ld (Val := Elt Ideal) (e' := .f32) x6 (Rect.unit ![1, 0, 0] ![1, 1, 64] inb_S4x1x64_S1x1x64_1_0_0))
    x7 x8 X Wq Wk Wv Bq Bk Bv M ⟨t.val * 4 + 1, by omega⟩ e0
    (fun d k => (slabW x1 1 inb_S4x64x1024_S1x64x1024_1_0_0 d k).trans (e1 1 d k))
    (fun d => (slabC x4 1 inb_S4x64x1_S1x64x1_1_0_0 d).trans (e4 1 d))
    (fun d k => (slabW x2 1 inb_S4x64x1024_S1x64x1024_1_0_0 d k).trans (e2 1 d k))
    (fun d => (slabC x5 1 inb_S4x64x1_S1x64x1_1_0_0 d).trans (e5 1 d))
    (fun d k => (slabW x3 1 inb_S4x64x1024_S1x64x1024_1_0_0 d k).trans (e3 1 d k))
    (fun d => (slabR x6 1 inb_S4x1x64_S1x1x64_1_0_0 d).trans (e6 1 d))
    e8 e7 h0 h1 bX bWq bBq bWk bBk
  have c2 := headT_at x0
    (View.ld (Val := Elt Ideal) (e' := .f32) x1 (Rect.unit ![2, 0, 0] ![1, 64, 1024] inb_S4x64x1024_S1x64x1024_2_0_0))
    (View.ld (Val := Elt Ideal) (e' := .f32) x2 (Rect.unit ![2, 0, 0] ![1, 64, 1024] inb_S4x64x1024_S1x64x1024_2_0_0))
    (View.ld (Val := Elt Ideal) (e' := .f32) x3 (Rect.unit ![2, 0, 0] ![1, 64, 1024] inb_S4x64x1024_S1x64x1024_2_0_0))
    (View.ld (Val := Elt Ideal) (e' := .f32) x4 (Rect.unit ![2, 0, 0] ![1, 64, 1] inb_S4x64x1_S1x64x1_2_0_0))
    (View.ld (Val := Elt Ideal) (e' := .f32) x5 (Rect.unit ![2, 0, 0] ![1, 64, 1] inb_S4x64x1_S1x64x1_2_0_0))
    (View.ld (Val := Elt Ideal) (e' := .f32) x6 (Rect.unit ![2, 0, 0] ![1, 1, 64] inb_S4x1x64_S1x1x64_2_0_0))
    x7 x8 X Wq Wk Wv Bq Bk Bv M ⟨t.val * 4 + 2, by omega⟩ e0
    (fun d k => (slabW x1 2 inb_S4x64x1024_S1x64x1024_2_0_0 d k).trans (e1 2 d k))
    (fun d => (slabC x4 2 inb_S4x64x1_S1x64x1_2_0_0 d).trans (e4 2 d))
    (fun d k => (slabW x2 2 inb_S4x64x1024_S1x64x1024_2_0_0 d k).trans (e2 2 d k))
    (fun d => (slabC x5 2 inb_S4x64x1_S1x64x1_2_0_0 d).trans (e5 2 d))
    (fun d k => (slabW x3 2 inb_S4x64x1024_S1x64x1024_2_0_0 d k).trans (e3 2 d k))
    (fun d => (slabR x6 2 inb_S4x1x64_S1x1x64_2_0_0 d).trans (e6 2 d))
    e8 e7 h0 h1 bX bWq bBq bWk bBk
  have c3 := headT_at x0
    (View.ld (Val := Elt Ideal) (e' := .f32) x1 (Rect.unit ![3, 0, 0] ![1, 64, 1024] inb_S4x64x1024_S1x64x1024_3_0_0))
    (View.ld (Val := Elt Ideal) (e' := .f32) x2 (Rect.unit ![3, 0, 0] ![1, 64, 1024] inb_S4x64x1024_S1x64x1024_3_0_0))
    (View.ld (Val := Elt Ideal) (e' := .f32) x3 (Rect.unit ![3, 0, 0] ![1, 64, 1024] inb_S4x64x1024_S1x64x1024_3_0_0))
    (View.ld (Val := Elt Ideal) (e' := .f32) x4 (Rect.unit ![3, 0, 0] ![1, 64, 1] inb_S4x64x1_S1x64x1_3_0_0))
    (View.ld (Val := Elt Ideal) (e' := .f32) x5 (Rect.unit ![3, 0, 0] ![1, 64, 1] inb_S4x64x1_S1x64x1_3_0_0))
    (View.ld (Val := Elt Ideal) (e' := .f32) x6 (Rect.unit ![3, 0, 0] ![1, 1, 64] inb_S4x1x64_S1x1x64_3_0_0))
    x7 x8 X Wq Wk Wv Bq Bk Bv M ⟨t.val * 4 + 3, by omega⟩ e0
    (fun d k => (slabW x1 3 inb_S4x64x1024_S1x64x1024_3_0_0 d k).trans (e1 3 d k))
    (fun d => (slabC x4 3 inb_S4x64x1_S1x64x1_3_0_0 d).trans (e4 3 d))
    (fun d k => (slabW x2 3 inb_S4x64x1024_S1x64x1024_3_0_0 d k).trans (e2 3 d k))
    (fun d => (slabC x5 3 inb_S4x64x1_S1x64x1_3_0_0 d).trans (e5 3 d))
    (fun d k => (slabW x3 3 inb_S4x64x1024_S1x64x1024_3_0_0 d k).trans (e3 3 d k))
    (fun d => (slabR x6 3 inb_S4x1x64_S1x1x64_3_0_0 d).trans (e6 3 d))
    e8 e7 h0 h1 bX bWq bBq bWk bBk
  unfold pointT share
  exact partT_at _ _ _ _ x9 (fun i d => headCtx X Wq Wk Wv Bq Bk Bv ⟨t.val * 4 + i.val, by omega⟩ d)
    (fun n k => Wo n ⟨t.val * 256 + k.val, by omega⟩) c0 c1 c2 c3 e9 n

end Cert.KernelIdeal.Body
-- ==== Proof.KernelResult.lean ====
/-
  The kernel's result, as the specification has it.
-/
module

public import proofs.«01_k».proof.Proof.Sweep
public import proofs.«01_k».proof.Proof.Blocks
public import proofs.«01_k».proof.Proof.Point
public import proofs.«01_k».proof.Proof.TableFacts

@[expose] public section

set_option maxRecDepth 16384

noncomputable section

namespace Cert.KernelIdeal.Sweep

open Cert.KernelIdeal Cert.KernelIdeal.Gen Cert.KernelIdeal.Blocks Cert.KernelIdeal.Body Idealize.ShloMosaic
  Idealize.ShloMosaic.TcCoe Cert.Tables Cert.Spec

/-- The kernel's result at an index is the specification's output row. -/
theorem result_at (m : (ℓ : Loc nD τ sig) → Buf (Elt Ideal) ℓ) (c : Dev nD)
    (X : Fin 2048 → Fin 1024 → ℝ) (Wq Wk Wv : Fin 1024 → Fin 1024 → ℝ) (Wo : Fin 1024 → Fin 1024 → EReal)
    (Bq Bk : Fin 1024 → ℝ) (Bv Bo : Fin 1024 → EReal)
    (hx : ∀ l k, m ((c : Thread nD τ).loc main_arg0) (ix3 0 l k) = ((X l k : ℝ) : EReal))
    (hwq : ∀ n k, m ((c : Thread nD τ).loc main_arg1) (ix2 n k) = ((Wq n k : ℝ) : EReal))
    (hbq : ∀ n, m ((c : Thread nD τ).loc main_arg2) (ix1 n) = ((Bq n : ℝ) : EReal))
    (hwk : ∀ n k, m ((c : Thread nD τ).loc main_arg3) (ix2 n k) = ((Wk n k : ℝ) : EReal))
    (hbk : ∀ n, m ((c : Thread nD τ).loc main_arg4) (ix1 n) = ((Bk n : ℝ) : EReal))
    (hwv : ∀ n k, m ((c : Thread nD τ).loc main_arg5) (ix2 n k) = ((Wv n k : ℝ) : EReal))
    (hbv : ∀ n, m ((c : Thread nD τ).loc main_arg6) (ix1 n) = Bv n)
    (hwo : ∀ n k, m ((c : Thread nD τ).loc main_arg7) (ix2 n k) = Wo n k)
    (hbo : ∀ n, m ((c : Thread nD τ).loc main_arg8) (ix1 n) = Bo n)
    (bX : ∀ l c, |X l c| ≤ 100000) (bWq : ∀ n c, |Wq n c| ≤ 100000) (bBq : ∀ n, |Bq n| ≤ 100000)
    (bWk : ∀ n c, |Wk n c| ≤ 100000) (bBk : ∀ n, |Bk n| ≤ 100000) (l : Fin 2048) (n : Fin 1024) :
    Value.G11 m c (ix2 l n) = out X Wq Wk Wv Wo Bq Bk Bv Bo n := by
  obtain ⟨M, hM, M0, M1⟩ := mask_val
  have row (t : Fin 4) : rowT m c (pt t) (ix2 0 n) = share X Wq Wk Wv Wo Bq Bk Bv t n :=
    pointT_at (iblk m c 0 (pt t)) (iblk m c 1 (pt t)) (iblk m c 2 (pt t)) (iblk m c 3 (pt t)) (iblk m c 4 (pt t))
      (iblk m c 5 (pt t)) (iblk m c 6 (pt t)) (iblk m c 7 (pt t)) (iblk m c 8 (pt t)) (iblk m c 9 (pt t)) t
      X Wq Wk Wv Wo Bq Bk Bv M
      (fun l k => (blk0 m c (pt t) l k).trans (hx l k))
      (fun i d k => (blk1 m c (pt t) i d k).trans (hwq _ k))
      (fun i d k => (blk2 m c (pt t) i d k).trans (hwk _ k))
      (fun i d k => (blk3 m c (pt t) i d k).trans (hwv _ k))
      (fun i d => (blk4 m c (pt t) i d).trans (hbq _))
      (fun i d => (blk5 m c (pt t) i d).trans (hbk _))
      (fun i d => (blk6 m c (pt t) i d).trans (hbv _))
      (fun l => (blk7 m c (pt t) l).trans (mean_val l))
      (fun l => (blk8 m c (pt t) l).trans (hM l))
      (fun n k => (blk9 m c (pt t) n k).trans (hwo n _))
      M0 M1 bX bWq bBq bWk bBk n
  rw [result]
  refine (store_read _ _ _ _ _ l n).trans ?_
  rw [row 0, row 1, row 2, row 3, (blk10 m c (pt 3) n).trans (hbo n), sum_share]

end Cert.KernelIdeal.Sweep
-- ==== Proof.RefRun.lean ====
/-
  The reference's run: its operations in order, the stages they make up, and the array its result buffer ends holding —
  the composition `result` of those stages over the nine arguments.
-/
module

public import proofs.«01_k».proof.ReferenceIdeal
public import proofs.«01_k».proof.Proof.Gen.ReferenceIdeal
public import Idealize.ShloMosaic.Lib.Claim
public import Idealize.ShloMosaic.Lib.StableHlo.RunRead
public import Idealize.ShloMosaic.PureOps.Ideal

@[expose] public section

set_option maxRecDepth 16384

noncomputable section

namespace Cert.ReferenceIdeal.Run

open Idealize.ShloMosaic Idealize.SL.Sem Cert.ReferenceIdeal StableHlo

/-- Two straight lines run one after the other are the line of their operations. -/
theorem isSeq_append {nD : Nat} {τ : Topo} {sig : RefSig} {Val : EltTy → Type} {Λ : Labels}
    {p q : Prog (TpuEff nD τ sig Val Λ .tc) PUnit} {l₁ l₂ : List (HloOp τ sig Val)}
    (h₁ : IsSeq p l₁) (h₂ : IsSeq q l₂) : IsSeq (p >>= fun _ => q) (l₁ ++ l₂) := by
  unfold IsSeq at h₁ h₂ ⊢
  rw [h₁, h₂, seq_append]

set_option maxHeartbeats 4000000 in
/-- The operations of the first window of the program, in order. -/
def ops0 : {ops : List (HloOp τ sig (Elt Ideal)) // ∀ d, IsSeq (nD := nD)
    (Λ := Pipeline.Sig Λ₀ (Fin 0) fun p => (pcfgs (F := Ideal) p).Adm) (main_part0 (F := Ideal) d) ops} := by
  apply Subtype.mk; unfold main_part0 fn_argmax.body; hlo_seq

set_option maxHeartbeats 4000000 in
/-- The operations of the second window of the program, in order. -/
def ops1 : {ops : List (HloOp τ sig (Elt Ideal)) // ∀ d, IsSeq (nD := nD)
    (Λ := Pipeline.Sig Λ₀ (Fin 0) fun p => (pcfgs (F := Ideal) p).Adm) (main_part1 (F := Ideal) d) ops} := by
  apply Subtype.mk; unfold main_part1; hlo_seq

/-- The contents of an array of 32-bit floats. -/
abbrev FArr (S : Shape) := FVec Ideal S .f32
/-- The contents of an array of 32-bit integers. -/
abbrev IArr (S : Shape) := IVec S 32

/-- A linear layer `x wᵀ + b` over the sequence. -/
def linear (x : FArr S1x2048x1024) (w : FArr S1024x1024) (b : FArr S1024) : FArr S1x2048x1024 :=
  addf (Host.dotGeneral dot_S1x2048x1024_S1024x1024_S1x2048x1024_2_0_01_1_n_n none x
      (transpose S1024x1024 [1, 0] w Facts₀.transposes_S1024x1024_S1024x1024_1_0))
    (broadcastInDim S1x2048x1024 ![0, 1, 2] Facts₀.bcast_S1x1x1024_S1x2048x1024_0_1_2
      (broadcastInDim S1x1x1024 ![2] Facts₀.bcast_S1024_S1x1x1024_2 b))

/-- The sequence split into sixteen heads, heads first. -/
def heads (y : FArr S1x2048x1024) : FArr S1x16x2048x64 :=
  transpose S1x16x2048x64 [0, 2, 1, 3] (shapeCast S1x2048x16x64 y Facts₀.shapeCasts_S1x2048x1024_S1x2048x16x64)
    Facts₀.transposes_S1x2048x16x64_S1x16x2048x64_0_2_1_3

/-- The sampled row numbers, as the table holds them. -/
def table : IArr S4096 := fun i => lit0 (S4096.rowMajor i)

/-- The sampled row numbers, negative ones counted from the end. -/
def sample : IArr S4096x1 :=
  broadcastInDim S4096x1 ![0] Facts₀.bcast_S4096_S4096x1_0
    (select (cmpi .slt table (broadcastInDim S4096 ![] Facts₀.bcast_S_S4096 (constantI S_ 32 0#32)))
      (addi table (broadcastInDim S4096 ![] Facts₀.bcast_S_S4096 (constantI S_ 32 2048#32))) table)

/-- Every query's scaled products with the sampled keys. -/
def sampledDots (q k : FArr S1x16x2048x64) : FArr S1x16x2048x4096 :=
  Host.divf (Host.dotGeneral dot_S1x16x2048x64_S1x16x4096x64_S1x16x2048x4096_3_3_2_2_01_01 none q
      (Host.gather gather_S1x16x2048x64_S4096x1_S1x16x4096x64_013_2_n_n_2_1_116164 k sample))
    (broadcastInDim S1x16x2048x4096 ![] Facts₀.bcast_S_S1x16x2048x4096 (constant S_ .f32 0x41000000#32))

/-- The sparsity measure of every query: the largest of its sampled products less their mean. -/
def measure (q k : FArr S1x16x2048x64) : FArr S1x16x2048 :=
  subf (Host.reduce FloatOps.maximumf (sampledDots q k) (constant (F := Ideal) S_ .f32 0xFF800000#32)
      Facts₀.reducesTo_S1x16x2048x4096_S1x16x2048_d3 Facts₀.h_S_)
    (Host.divf (Host.reduceAdd (sampledDots q k) (constant (F := Ideal) S_ .f32 0x00000000#32)
        Facts₀.reducesTo_S1x16x2048x4096_S1x16x2048_d3 Facts₀.h_S_)
      (broadcastInDim S1x16x2048 ![] Facts₀.bcast_S_S1x16x2048 (constant S_ .f32 0x45800000#32)))

/-- The query of the largest measure, per head. -/
def best (s : FArr S1x16x2048) : IArr S1x16 := fun j =>
  (Host.argReduce reducer_argmax_f32_i32 s (iotaInDim S1x16x2048 32 2) (constant S_ .f32 0xFF800000#32)
    (constantI S_ 32 0#32) Facts₀.reducesTo_S1x16x2048_S1x16_d2 Facts₀.h_S_ j).2

/-- The batch number, as an index. -/
def batchIx : IArr S1x16x1x1 :=
  broadcastInDim S1x16x1x1 ![0, 1, 2] Facts₀.bcast_S1x16x1_S1x16x1x1_0_1_2
    (broadcastInDim S1x16x1 ![0, 1, 2] Facts₀.bcast_S1x1x1_S1x16x1_0_1_2
      (select
        (cmpi .slt (broadcastInDim S1x1x1 ![0] Facts₀.bcast_S1_S1x1x1_0 (iotaInDim S1 32 0))
          (broadcastInDim S1x1x1 ![] Facts₀.bcast_S_S1x1x1 (constantI S_ 32 0#32)))
        (addi (broadcastInDim S1x1x1 ![0] Facts₀.bcast_S1_S1x1x1_0 (iotaInDim S1 32 0))
          (broadcastInDim S1x1x1 ![] Facts₀.bcast_S_S1x1x1 (constantI S_ 32 1#32)))
        (broadcastInDim S1x1x1 ![0] Facts₀.bcast_S1_S1x1x1_0 (iotaInDim S1 32 0))))

/-- The head numbers, as indices. -/
def headIx : IArr S1x16x1x1 :=
  broadcastInDim S1x16x1x1 ![0, 1, 2] Facts₀.bcast_S1x16x1_S1x16x1x1_0_1_2
    (select
      (cmpi .slt (broadcastInDim S1x16x1 ![1] Facts₀.bcast_S16_S1x16x1_1 (iotaInDim S16 32 0))
        (broadcastInDim S1x16x1 ![] Facts₀.bcast_S_S1x16x1 (constantI S_ 32 0#32)))
      (addi (broadcastInDim S1x16x1 ![1] Facts₀.bcast_S16_S1x16x1_1 (iotaInDim S16 32 0))
        (broadcastInDim S1x16x1 ![] Facts₀.bcast_S_S1x16x1 (constantI S_ 32 16#32)))
      (broadcastInDim S1x16x1 ![1] Facts₀.bcast_S16_S1x16x1_1 (iotaInDim S16 32 0)))

/-- The chosen queries' numbers, as indices. -/
def rowIx (u : IArr S1x16) : IArr S1x16x1x1 :=
  broadcastInDim S1x16x1x1 ![0, 1, 2] Facts₀.bcast_S1x16x1_S1x16x1x1_0_1_2
    (select
      (cmpi .slt (broadcastInDim S1x16x1 ![0, 1] Facts₀.bcast_S1x16_S1x16x1_0_1 u)
        (broadcastInDim S1x16x1 ![] Facts₀.bcast_S_S1x16x1 (constantI S_ 32 0#32)))
      (addi (broadcastInDim S1x16x1 ![0, 1] Facts₀.bcast_S1x16_S1x16x1_0_1 u)
        (broadcastInDim S1x16x1 ![] Facts₀.bcast_S_S1x16x1 (constantI S_ 32 2048#32)))
      (broadcastInDim S1x16x1 ![0, 1] Facts₀.bcast_S1x16_S1x16x1_0_1 u))

/-- The three index columns side by side: where each head's chosen query lies. -/
def place (a b c : IArr S1x16x1x1) : IArr S1x16x1x3 :=
  concatenate S1x16x1x3 3 [⟨S1x16x1x1, a⟩, ⟨S1x16x1x1, b⟩, ⟨S1x16x1x1, c⟩]
    Facts₀.concatenates_S1x16x1x1_S1x16x1x1_S1x16x1x1_S1x16x1x3_d3

/-- The chosen query's scaled products with all keys. -/
def logits (q k : FArr S1x16x2048x64) (i : IArr S1x16x1x3) : FArr S1x16x1x2048 :=
  Host.divf (Host.dotGeneral dot_S1x16x1x64_S1x16x2048x64_S1x16x1x2048_3_3_2_2_01_01 none
      (Host.gather gather_S1x16x2048x64_S1x16x1x3_S1x16x1x64_3_012_n_n_012_3_11164 q i) k)
    (broadcastInDim S1x16x1x2048 ![] Facts₀.bcast_S_S1x16x1x2048 (constant S_ .f32 0x41000000#32))

/-- The exponentials of the logits less their largest. -/
def expos (z : FArr S1x16x1x2048) : FArr S1x16x1x2048 :=
  Host.exp (subf z (broadcastInDim S1x16x1x2048 ![0, 1, 2, 3] Facts₀.bcast_S1x16x1x1_S1x16x1x2048_0_1_2_3
    (broadcastInDim S1x16x1x1 ![0, 1, 2] Facts₀.bcast_S1x16x1_S1x16x1x1_0_1_2
      (maximumf (broadcastInDim S1x16x1 ![] Facts₀.bcast_S_S1x16x1 (constant S_ .f32 0xFF800000#32))
        (Host.reduce FloatOps.maximumf z (constant (F := Ideal) S_ .f32 0xFF800000#32)
          Facts₀.reducesTo_S1x16x1x2048_S1x16x1_d3 Facts₀.h_S_)))))

/-- The softmax weights, from the exponentials. -/
def weights (e : FArr S1x16x1x2048) : FArr S1x16x1x2048 :=
  Host.divf e (broadcastInDim S1x16x1x2048 ![0, 1, 2, 3] Facts₀.bcast_S1x16x1x1_S1x16x1x2048_0_1_2_3
    (broadcastInDim S1x16x1x1 ![0, 1, 2] Facts₀.bcast_S1x16x1_S1x16x1x1_0_1_2
      (Host.reduceAdd e (constant (F := Ideal) S_ .f32 0x00000000#32) Facts₀.reducesTo_S1x16x1x2048_S1x16x1_d3 Facts₀.h_S_)))

/-- The context of every head, the same in every row of the sequence, heads side by side. -/
def context (p : FArr S1x16x1x2048) (v : FArr S1x16x2048x64) : FArr S1x2048x1024 :=
  shapeCast S1x2048x1024
    (transpose S1x2048x16x64 [0, 2, 1, 3]
      (broadcastInDim S1x16x2048x64 ![0, 1, 2, 3] Facts₀.bcast_S1x16x1x64_S1x16x2048x64_0_1_2_3
        (Host.dotGeneral dot_S1x16x1x2048_S1x16x2048x64_S1x16x1x64_3_2_2_3_01_01 none p v))
      Facts₀.transposes_S1x16x2048x64_S1x2048x16x64_0_2_1_3)
    Facts₀.shapeCasts_S1x2048x16x64_S1x2048x1024

/-- The reference's result, without its leading axis. -/
def mixed (y : FArr S1x2048x1024) : FArr S2048x1024 := shapeCast S2048x1024 y Facts₀.shapeCasts_S1x2048x1024_S2048x1024

/-- What the second window leaves in the result buffer. -/
def tail (q k v : FArr S1x16x2048x64) (i : IArr S1x16x1x3) (wo : FArr S1024x1024) (bo : FArr S1024) : FArr S2048x1024 :=
  mixed (linear (context (weights (expos (logits q k i))) v) wo bo)

/-- The array the reference computes from its nine arguments. -/
def result (x : FArr S1x2048x1024) (wq : FArr S1024x1024) (bq : FArr S1024) (wk : FArr S1024x1024) (bk : FArr S1024)
    (wv : FArr S1024x1024) (bv : FArr S1024) (wo : FArr S1024x1024) (bo : FArr S1024) : FArr S2048x1024 :=
  tail (heads (linear x wq bq)) (heads (linear x wk bk)) (heads (linear x wv bv))
    (place batchIx headIx (rowIx (best (measure (heads (linear x wq bq)) (heads (linear x wk bk)))))) wo bo

variable (V : Valuation τ sig (Elt Ideal))

set_option maxHeartbeats 4000000

/-- The queries. -/
theorem read_v6 : after ops0.1 V (Proc.devRef .tc main_v6) = heads (linear (V (Proc.devRef .tc main_arg0)) (V (Proc.devRef .tc main_arg1)) (V (Proc.devRef .tc main_arg2))) := by
  after_reads_simp
  rfl

/-- The keys. -/
theorem read_v13 : after ops0.1 V (Proc.devRef .tc main_v13) = heads (linear (V (Proc.devRef .tc main_arg0)) (V (Proc.devRef .tc main_arg3)) (V (Proc.devRef .tc main_arg4))) := by
  after_reads_simp
  rfl

/-- The values. -/
theorem read_v20 : after ops0.1 V (Proc.devRef .tc main_v20) = heads (linear (V (Proc.devRef .tc main_arg0)) (V (Proc.devRef .tc main_arg5)) (V (Proc.devRef .tc main_arg6))) := by
  after_reads_simp
  rfl

/-- The chosen queries. -/
theorem read_v37 : after ops0.1 V (Proc.devRef .tc main_v37) = broadcastInDim S1x16x1 ![0, 1] Facts₀.bcast_S1x16_S1x16x1_0_1
    (best (measure (heads (linear (V (Proc.devRef .tc main_arg0)) (V (Proc.devRef .tc main_arg1)) (V (Proc.devRef .tc main_arg2))))
      (heads (linear (V (Proc.devRef .tc main_arg0)) (V (Proc.devRef .tc main_arg3)) (V (Proc.devRef .tc main_arg4)))))) := by
  after_reads_simp
  rfl

/-- The pieces of the index array, read at the second window's line. -/
theorem read_v58 : after ops1.1 (after ops0.1 V) (Proc.devRef .tc main_v58) = batchIx := by
  after_reads_simp
  rfl

theorem read_v59 : after ops1.1 (after ops0.1 V) (Proc.devRef .tc main_v59) = headIx := by
  after_reads_simp
  rfl

theorem read_v60 (W : Valuation τ sig (Elt Ideal)) (u : IArr S1x16)
    (hu : W (Proc.devRef .tc main_v37) = broadcastInDim S1x16x1 ![0, 1] Facts₀.bcast_S1x16_S1x16x1_0_1 u) :
    after ops1.1 W (Proc.devRef .tc main_v60) = rowIx u := by
  after_reads_simp
  rw [hu]
  rfl

/-- The index array, read where the second window concatenates it. -/
theorem read_v61 (u : IArr S1x16)
    (hu : after ops0.1 V (Proc.devRef .tc main_v37) = broadcastInDim S1x16x1 ![0, 1] Facts₀.bcast_S1x16_S1x16x1_0_1 u) :
    after ops1.1 (after ops0.1 V) (Proc.devRef .tc main_v61) = place batchIx headIx (rowIx u) := by
  have h58 : upto ops1.1 (after ops0.1 V) 14 (Proc.devRef .tc (![main_v58, main_v59, main_v60] 0)) = batchIx := by
    show upto ops1.1 (after ops0.1 V) 14 (Proc.devRef .tc main_v58) = _
    rw [← read_v58 V]
    after_reads_simp
  have h59 : upto ops1.1 (after ops0.1 V) 14 (Proc.devRef .tc (![main_v58, main_v59, main_v60] 1)) = headIx := by
    show upto ops1.1 (after ops0.1 V) 14 (Proc.devRef .tc main_v59) = _
    rw [← read_v59 V]
    after_reads_simp
  have h60 : upto ops1.1 (after ops0.1 V) 14 (Proc.devRef .tc (![main_v58, main_v59, main_v60] 2)) = rowIx u := by
    show upto ops1.1 (after ops0.1 V) 14 (Proc.devRef .tc main_v60) = _
    rw [← read_v60 (after ops0.1 V) u hu]
    after_reads_simp
  after_reads_simp
  rw [h58, h59, h60]
  rfl

/-- The result buffer, from what the second window finds and the index array it builds. -/
theorem read_v86 (W : Valuation τ sig (Elt Ideal)) (i : IArr S1x16x1x3)
    (hi : after ops1.1 W (Proc.devRef .tc main_v61) = i) :
    after ops1.1 W (Proc.devRef .tc main_v86) = tail (W (Proc.devRef .tc main_v6)) (W (Proc.devRef .tc main_v13))
      (W (Proc.devRef .tc main_v20)) i (W (Proc.devRef .tc main_arg7)) (W (Proc.devRef .tc main_arg8)) := by
  subst hi
  after_reads_simp
  rfl

/-- The two windows one after the other. -/
theorem after_ops : after (ops0.1 ++ ops1.1) V = after ops1.1 (after ops0.1 V) := by
  generalize ops0.1 = l
  induction l generalizing V with
  | nil => rfl
  | cons op l ih => exact ih _

/-- The result buffer holds `result` of the arguments. -/
theorem read_result : after (ops0.1 ++ ops1.1) V (Proc.devRef .tc main_v86)
    = result (V (Proc.devRef .tc main_arg0)) (V (Proc.devRef .tc main_arg1)) (V (Proc.devRef .tc main_arg2))
      (V (Proc.devRef .tc main_arg3)) (V (Proc.devRef .tc main_arg4)) (V (Proc.devRef .tc main_arg5))
      (V (Proc.devRef .tc main_arg6)) (V (Proc.devRef .tc main_arg7)) (V (Proc.devRef .tc main_arg8)) := by
  have h7 : after ops0.1 V (Proc.devRef .tc main_arg7) = V (Proc.devRef .tc main_arg7) := by after_reads_simp
  have h8 : after ops0.1 V (Proc.devRef .tc main_arg8) = V (Proc.devRef .tc main_arg8) := by after_reads_simp
  rw [after_ops, read_v86 (after ops0.1 V) _ (read_v61 V _ (read_v37 V)), read_v6, read_v13, read_v20, h7, h8]
  rfl

/-- The reference runs, and every buffer ends holding what the operations leave in it. -/
theorem run_ops (m' : (ℓ : Loc nD τ sig) → Buf (Elt Ideal) ℓ) (g' : Dev nD → PrngReg) :
    θ_run (defs (F := Ideal)) (onTc (τ := τ) (main (F := Ideal))) ⟨m', fun _ => 0, g'⟩ fun r =>
      ∀ (d : Dev nD) (b : Ref sig .tc), r.2.mem ((d.tc : Thread nD τ).loc b)
        = after (ops0.1 ++ ops1.1) (launchContents m' d) (Proc.devRef .tc b) :=
  run_hlo _ _ (fun d => isSeq_append (ops0.2 d) (ops1.2 d)) (by decide) (by decide) (by unfold ops0 ops1; simp)
    (by unfold ops0 ops1; intro _ h; (repeat (cases h with | head => rfl | tail _ h => ?_)); exact nomatch h) _ _

/-- The reference runs: its result buffer ends holding `result` of the arguments, which it leaves as they were. -/
theorem run (m' : (ℓ : Loc nD τ sig) → Buf (Elt Ideal) ℓ) (g' : Dev nD → PrngReg) :
    θ_run (defs (F := Ideal)) (onTc (τ := τ) (main (F := Ideal))) ⟨m', fun _ => 0, g'⟩ fun r =>
      ∀ c : Dev nD,
        r.2.mem ((c.tc : Thread nD τ).loc main_v86)
          = result (m' ((c.tc : Thread nD τ).loc main_arg0)) (m' ((c.tc : Thread nD τ).loc main_arg1))
            (m' ((c.tc : Thread nD τ).loc main_arg2)) (m' ((c.tc : Thread nD τ).loc main_arg3))
            (m' ((c.tc : Thread nD τ).loc main_arg4)) (m' ((c.tc : Thread nD τ).loc main_arg5))
            (m' ((c.tc : Thread nD τ).loc main_arg6)) (m' ((c.tc : Thread nD τ).loc main_arg7))
            (m' ((c.tc : Thread nD τ).loc main_arg8))
        ∧ r.2.mem ((c.tc : Thread nD τ).loc main_arg0) = m' ((c.tc : Thread nD τ).loc main_arg0)
        ∧ r.2.mem ((c.tc : Thread nD τ).loc main_arg1) = m' ((c.tc : Thread nD τ).loc main_arg1)
        ∧ r.2.mem ((c.tc : Thread nD τ).loc main_arg2) = m' ((c.tc : Thread nD τ).loc main_arg2)
        ∧ r.2.mem ((c.tc : Thread nD τ).loc main_arg3) = m' ((c.tc : Thread nD τ).loc main_arg3)
        ∧ r.2.mem ((c.tc : Thread nD τ).loc main_arg4) = m' ((c.tc : Thread nD τ).loc main_arg4)
        ∧ r.2.mem ((c.tc : Thread nD τ).loc main_arg5) = m' ((c.tc : Thread nD τ).loc main_arg5)
        ∧ r.2.mem ((c.tc : Thread nD τ).loc main_arg6) = m' ((c.tc : Thread nD τ).loc main_arg6)
        ∧ r.2.mem ((c.tc : Thread nD τ).loc main_arg7) = m' ((c.tc : Thread nD τ).loc main_arg7)
        ∧ r.2.mem ((c.tc : Thread nD τ).loc main_arg8) = m' ((c.tc : Thread nD τ).loc main_arg8) := by
  refine θ_run_mono (run_ops m' g') fun r hr c => ?_
  refine ⟨(hr c main_v86).trans (read_result (launchContents m' c)), ?_⟩
  refine ⟨?_, ?_, ?_, ?_, ?_, ?_, ?_, ?_, ?_⟩
  all_goals
    refine (hr c _).trans ?_
    rw [after_ops]
    after_reads_simp

end Cert.ReferenceIdeal.Run
end
-- ==== Proof.RefPick.lean ====
/-
  The reference's three index-driven operations read at an index: the two gathers and the position of a largest entry.
-/
module

public import proofs.«01_k».proof.Proof.RefRun
public import proofs.«01_k».proof.Proof.Reals
public import Idealize.ShloMosaic.Lib.Pointwise

@[expose] public section

set_option maxRecDepth 16384

noncomputable section

namespace Cert.ReferenceIdeal.Run

open Idealize.ShloMosaic Cert.ReferenceIdeal Cert.Reals

/-- The first gather picks the rows the index column names. -/
theorem gather_rows (k : FArr S1x16x2048x64) (i : IArr S4096x1) (h : Fin 16) (s : Fin 4096) (d : Fin 64) (m : Fin 2048)
    (hm : i (ix2 s 0) = BitVec.ofNat 32 m.val) :
    Host.gather gather_S1x16x2048x64_S4096x1_S1x16x4096x64_013_2_n_n_2_1_116164 k i (ix4 0 h s d) = k (ix4 0 h m d) := by
  set D := gather_S1x16x2048x64_S4096x1_S1x16x4096x64_013_2_n_n_2_1_116164 with hD
  have hI : (BitVec.ofNat 32 m.val).toInt.toNat = m.val := by
    have := m.isLt
    rw [BitVec.toInt_eq_toNat_of_lt (by rw [BitVec.toNat_ofNat]; omega), BitVec.toNat_ofNat]; omega
  unfold Host.gather
  congr 1
  funext a
  refine Fin.ext ?_
  show D.start (ix4 0 h s d) i a + D.batchCoord (ix4 0 h s d) a + D.offCoord (ix4 0 h s d) a = _
  rw [GatherDims.batchCoord_eq_zero _ _ _ List.not_mem_nil, Nat.add_zero]
  match a with
  | ⟨0, _⟩ => rfl
  | ⟨1, p⟩ =>
    unfold GatherDims.start
    rw [dif_neg (show ¬ (⟨1, p⟩ : Fin S1x16x2048x64.rank) ∈ D.startIndexMap from (show ¬ (1 : Fin 4) ∈ [2] by decide)), Nat.zero_add]
    rfl
  | ⟨3, p⟩ =>
    unfold GatherDims.start
    rw [dif_neg (show ¬ (⟨3, p⟩ : Fin S1x16x2048x64.rank) ∈ D.startIndexMap from (show ¬ (3 : Fin 4) ∈ [2] by decide)), Nat.zero_add]
    rfl
  | ⟨2, p⟩ =>
    rw [GatherDims.offCoord_eq_zero _ _ _ (fun h => ((GatherDims.mem_sKept _ _).mp h).1 (List.mem_singleton.mpr rfl)),
      Nat.add_zero]
    unfold GatherDims.start
    rw [dif_pos (show (⟨2, p⟩ : Fin S1x16x2048x64.rank) ∈ D.startIndexMap from (show (2 : Fin 4) ∈ [2] by decide))]
    have hsi : D.siIdx (ix4 0 h s d) ⟨List.idxOf (⟨2, p⟩ : Fin S1x16x2048x64.rank) D.startIndexMap,
        List.idxOf_lt_length_iff.2 (show (2 : Fin 4) ∈ [2] by decide)⟩ = ix2 s 0 := by
      funext b; refine Fin.ext ?_
      match b with
      | ⟨0, _⟩ => rfl
      | ⟨1, _⟩ => rfl
    show min (i (D.siIdx (ix4 0 h s d) ⟨List.idxOf (⟨2, p⟩ : Fin S1x16x2048x64.rank) D.startIndexMap, _⟩)).toInt.toNat (2048 - 1) = m.val
    rw [hsi, hm, hI]
    have := m.isLt
    omega

/-- The second gather picks, per head, the one row the index triple names. -/
theorem gather_row (q : FArr S1x16x2048x64) (i : IArr S1x16x1x3) (h : Fin 16) (d : Fin 64) (m : Fin 2048)
    (h0 : i (ix4 0 h 0 0) = 0#32) (h1 : i (ix4 0 h 0 1) = BitVec.ofNat 32 h.val) (h2 : i (ix4 0 h 0 2) = BitVec.ofNat 32 m.val) :
    Host.gather gather_S1x16x2048x64_S1x16x1x3_S1x16x1x64_3_012_n_n_012_3_11164 q i (ix4 0 h 0 d) = q (ix4 0 h m d) := by
  set D := gather_S1x16x2048x64_S1x16x1x3_S1x16x1x64_3_012_n_n_012_3_11164 with hD
  have hI : ∀ n : ℕ, n < 2048 → (BitVec.ofNat 32 n).toInt.toNat = n := fun n hn => by
    rw [BitVec.toInt_eq_toNat_of_lt (by rw [BitVec.toNat_ofNat]; omega), BitVec.toNat_ofNat]; omega
  unfold Host.gather
  congr 1
  funext a
  refine Fin.ext ?_
  show D.start (ix4 0 h 0 d) i a + D.batchCoord (ix4 0 h 0 d) a + D.offCoord (ix4 0 h 0 d) a = _
  rw [GatherDims.batchCoord_eq_zero _ _ _ List.not_mem_nil, Nat.add_zero]
  match a with
  | ⟨3, p⟩ =>
    unfold GatherDims.start
    rw [dif_neg (show ¬ (⟨3, p⟩ : Fin S1x16x2048x64.rank) ∈ D.startIndexMap from (show ¬ (3 : Fin 4) ∈ [0, 1, 2] by decide)), Nat.zero_add]
    rfl
  | ⟨0, p⟩ =>
    rw [GatherDims.offCoord_eq_zero _ _ _ (fun h => ((GatherDims.mem_sKept _ _).mp h).1 (show (0 : Fin 4) ∈ [0, 1, 2] by decide)),
      Nat.add_zero]
    unfold GatherDims.start
    rw [dif_pos (show (⟨0, p⟩ : Fin S1x16x2048x64.rank) ∈ D.startIndexMap from (show (0 : Fin 4) ∈ [0, 1, 2] by decide))]
    have hsi : D.siIdx (ix4 0 h 0 d) ⟨List.idxOf (⟨0, p⟩ : Fin S1x16x2048x64.rank) D.startIndexMap,
        List.idxOf_lt_length_iff.2 (show (0 : Fin 4) ∈ [0, 1, 2] by decide)⟩ = ix4 0 h 0 0 := by
      funext b; refine Fin.ext ?_
      match b with
      | ⟨0, _⟩ => rfl
      | ⟨1, _⟩ => rfl
      | ⟨2, _⟩ => rfl
      | ⟨3, _⟩ => rfl
    show min (i (D.siIdx (ix4 0 h 0 d) ⟨List.idxOf (⟨0, p⟩ : Fin S1x16x2048x64.rank) D.startIndexMap, _⟩)).toInt.toNat (1 - 1) = 0
    omega
  | ⟨1, p⟩ =>
    rw [GatherDims.offCoord_eq_zero _ _ _ (fun h => ((GatherDims.mem_sKept _ _).mp h).1 (show (1 : Fin 4) ∈ [0, 1, 2] by decide)),
      Nat.add_zero]
    unfold GatherDims.start
    rw [dif_pos (show (⟨1, p⟩ : Fin S1x16x2048x64.rank) ∈ D.startIndexMap from (show (1 : Fin 4) ∈ [0, 1, 2] by decide))]
    have hsi : D.siIdx (ix4 0 h 0 d) ⟨List.idxOf (⟨1, p⟩ : Fin S1x16x2048x64.rank) D.startIndexMap,
        List.idxOf_lt_length_iff.2 (show (1 : Fin 4) ∈ [0, 1, 2] by decide)⟩ = ix4 0 h 0 1 := by
      funext b; refine Fin.ext ?_
      match b with
      | ⟨0, _⟩ => rfl
      | ⟨1, _⟩ => rfl
      | ⟨2, _⟩ => rfl
      | ⟨3, _⟩ => rfl
    show min (i (D.siIdx (ix4 0 h 0 d) ⟨List.idxOf (⟨1, p⟩ : Fin S1x16x2048x64.rank) D.startIndexMap, _⟩)).toInt.toNat (16 - 1) = h.val
    have := h.isLt
    rw [hsi, h1, hI _ (by omega)]
    omega
  | ⟨2, p⟩ =>
    rw [GatherDims.offCoord_eq_zero _ _ _ (fun h => ((GatherDims.mem_sKept _ _).mp h).1 (show (2 : Fin 4) ∈ [0, 1, 2] by decide)),
      Nat.add_zero]
    unfold GatherDims.start
    rw [dif_pos (show (⟨2, p⟩ : Fin S1x16x2048x64.rank) ∈ D.startIndexMap from (show (2 : Fin 4) ∈ [0, 1, 2] by decide))]
    have hsi : D.siIdx (ix4 0 h 0 d) ⟨List.idxOf (⟨2, p⟩ : Fin S1x16x2048x64.rank) D.startIndexMap,
        List.idxOf_lt_length_iff.2 (show (2 : Fin 4) ∈ [0, 1, 2] by decide)⟩ = ix4 0 h 0 2 := by
      funext b; refine Fin.ext ?_
      match b with
      | ⟨0, _⟩ => rfl
      | ⟨1, _⟩ => rfl
      | ⟨2, _⟩ => rfl
      | ⟨3, _⟩ => rfl
    show min (i (D.siIdx (ix4 0 h 0 d) ⟨List.idxOf (⟨2, p⟩ : Fin S1x16x2048x64.rank) D.startIndexMap, _⟩)).toInt.toNat (2048 - 1) = m.val
    have := m.isLt
    rw [hsi, h2, hI _ (by omega)]
    omega

/-- Whether the first of two (value, position) pairs is preferred. -/
def Better (a b : EReal × BitVec 32) : Prop := b.1 < a.1 ∨ (a.1 = b.1 ∧ a.2.toInt < b.2.toInt)

/-- The reducer keeps one of its two pairs: the first when it is preferred, otherwise the second. -/
theorem reducer_eq (a b : EReal × BitVec 32) :
    (Better a b ∧ reducer_argmax_f32_i32 (F := Ideal) a b = a) ∨ (¬ Better a b ∧ reducer_argmax_f32_i32 (F := Ideal) a b = b) := by
  obtain ⟨a1, a2⟩ := a
  obtain ⟨b1, b2⟩ := b
  unfold Better reducer_argmax_f32_i32
  simp only [Ideal.cmpf_def, Ideal.cmp]
  rcases lt_trichotomy b1 a1 with hl | he | hg
  · left
    refine ⟨Or.inl hl, ?_⟩
    have h1 : ¬ a1 = b1 := hl.ne'
    simp [hl, IntOp.ori, Scalar.select, h1, IntOp.andi]
  · subst he
    by_cases hs : a2.toInt < b2.toInt
    · left
      refine ⟨Or.inr ⟨rfl, hs⟩, ?_⟩
      have : IntOp.cmpi .slt a2 b2 = 1#1 := (congrArg BitVec.ofBool (decide_eq_true hs) :)
      simp [IntOp.ori, Scalar.select, IntOp.andi, this]
    · right
      refine ⟨by simp [hs], ?_⟩
      have : IntOp.cmpi .slt a2 b2 = 0#1 := (congrArg BitVec.ofBool (decide_eq_false hs) :)
      simp [IntOp.ori, Scalar.select, IntOp.andi, this]
  · right
    have h1 : ¬ a1 = b1 := hg.ne
    have h2 : ¬ b1 < a1 := hg.not_gt
    refine ⟨by simp [h1, h2], ?_⟩
    simp [IntOp.ori, Scalar.select, IntOp.andi, h1, h2]

theorem Better.trans_not {a b c : EReal × BitVec 32} (h1 : ¬ Better a b) (h2 : ¬ Better b c) : ¬ Better a c := by
  unfold Better at *
  push Not at *
  refine ⟨h1.1.trans h2.1, fun e => ?_⟩
  have e1 : a.1 = b.1 := le_antisymm h1.1 (by rw [e]; exact h2.1)
  exact (h2.2 (e1.symm.trans e)).trans (h1.2 e1)

theorem Better.asymm {a b : EReal × BitVec 32} (h1 : Better a b) : ¬ Better b a := by
  unfold Better at *
  push Not
  rcases h1 with h | ⟨h, h'⟩
  · exact ⟨h.le, fun e => absurd e h.ne⟩
  · exact ⟨h.ge, fun _ => h'.le⟩

theorem Better.irrefl (a : EReal × BitVec 32) : ¬ Better a a := fun h => h.asymm h

/-- The fold of the reducer over a list ends at one of the pairs, and no pair is preferred to it. -/
theorem foldl_reducer (L : List (EReal × BitVec 32)) (b : EReal × BitVec 32) :
    (L.foldl (reducer_argmax_f32_i32 (F := Ideal)) b ∈ b :: L)
      ∧ ∀ p ∈ b :: L, ¬ Better p (L.foldl (reducer_argmax_f32_i32 (F := Ideal)) b) := by
  induction L generalizing b with
  | nil =>
    refine ⟨by simp, fun p hp => ?_⟩
    rw [List.mem_singleton] at hp
    rw [hp]; exact Better.irrefl _
  | cons a L ih =>
    rw [List.foldl_cons]
    obtain ⟨hm, hn⟩ := ih (reducer_argmax_f32_i32 (F := Ideal) b a)
    rcases reducer_eq b a with ⟨hb, he⟩ | ⟨hb, he⟩
    · rw [he] at hm hn ⊢
      refine ⟨?_, fun p hp => ?_⟩
      · rcases List.mem_cons.mp hm with h | h
        · rw [h]; simp
        · simp [h]
      · rcases List.mem_cons.mp hp with h | h
        · exact hn p (by simp [h])
        · rcases List.mem_cons.mp h with h | h
          · rw [h]; exact Better.trans_not hb.asymm (hn b (by simp))
          · exact hn p (by simp [h])
    · rw [he] at hm hn ⊢
      refine ⟨List.mem_cons_of_mem _ hm, fun p hp => ?_⟩
      rcases List.mem_cons.mp hp with h | h
      · rw [h]; exact Better.trans_not hb (hn a (by simp))
      · exact hn p h

/-- Where the measures are real, the chosen query is the first at which the head's measure is largest. -/
theorem best_at (s : FArr S1x16x2048) (h : Fin 16) (M : Fin 2048 → ℝ) (hM : ∀ l, s (ix3 0 h l) = ((M l : ℝ) : EReal))
    (u : Fin 2048) (hu : IsFirst M u) : best s (ix2 0 h) = BitVec.ofNat 32 u.val := by
  have hI : ∀ n : Fin 2048, (BitVec.ofNat 32 n.val).toInt = (n.val : ℤ) := fun n => by
    have := n.isLt
    rw [BitVec.toInt_eq_toNat_of_lt (by rw [BitVec.toNat_ofNat]; omega), BitVec.toNat_ofNat]; omega
  unfold best
  rw [Ideal.argReduce_eq_reduce2, Host.reduce2_eq_foldl_fiber]
  set L := Host.argReduceFiber s (iotaInDim S1x16x2048 32 2) Facts₀.reducesTo_S1x16x2048_S1x16_d2 (ix2 0 h) with hL
  have hmem : ∀ p, p ∈ L ↔ ∃ l : Fin 2048, p = (((M l : ℝ) : EReal), BitVec.ofNat 32 l.val) := by
    intro p
    rw [hL]
    unfold Host.argReduceFiber
    rw [List.mem_map]
    constructor
    · rintro ⟨n, hn, rfl⟩
      rw [List.mem_filter] at hn
      obtain ⟨l, hl⟩ := (Shape.ReducesTo.fiber_r3_a2 _ _ _).mp (of_decide_eq_true hn.2)
      refine ⟨l, ?_⟩
      rw [← hl, ← hM l]
      rfl
    · rintro ⟨l, rfl⟩
      refine ⟨S1x16x2048.rowMajor (ix3 0 h l), ?_, ?_⟩
      · rw [List.mem_filter]
        refine ⟨List.mem_finRange _, decide_eq_true ?_⟩
        rw [Equiv.symm_apply_apply]
        exact (Shape.ReducesTo.fiber_r3_a2 _ _ _).mpr ⟨l, rfl⟩
      · rw [Equiv.symm_apply_apply, hM l]
        rfl
  set b : EReal × BitVec 32 := (constant (F := Ideal) S_ .f32 0xFF800000#32 (Shape.Idx.first Facts₀.h_S_),
    constantI S_ 32 0#32 (Shape.Idx.first Facts₀.h_S_)) with hb
  have hb1 : b.1 = ⊥ := ofBits_negInf
  obtain ⟨h1, h2⟩ := foldl_reducer L b
  set r := L.foldl (reducer_argmax_f32_i32 (F := Ideal)) b with hr
  have hu' := h2 _ (List.mem_cons_of_mem _ ((hmem _).mpr ⟨u, rfl⟩))
  rcases List.mem_cons.mp h1 with h | h
  · exfalso
    apply hu'
    left
    rw [h, hb1]
    exact EReal.bot_lt_coe _
  · obtain ⟨l, hl⟩ := (hmem _).mp h
    unfold Better at hu'
    push Not at hu'
    rw [hl] at hu'
    have e1 : M u ≤ M l := EReal.coe_le_coe_iff.mp hu'.1
    have e2 : M u = M l := le_antisymm e1 (hu.1 l)
    have e3 := hu'.2 (by rw [e2])
    dsimp only at e3
    rw [hI, hI] at e3
    have e4 := hu.2 l e2.symm
    have e5 : l = u := Fin.ext (by have := Fin.le_def.mp e4; omega)
    show r.2 = _
    rw [hl, e5]

end Cert.ReferenceIdeal.Run
-- ==== Proof.RefVal.lean ====
/-
  The reference's stages read at an index, over real arguments.
-/
module

public import proofs.«01_k».proof.Proof.RefPick
public import proofs.«01_k».proof.Proof.TableFacts

@[expose] public section

set_option maxRecDepth 16384

noncomputable section

namespace Cert.ReferenceIdeal.Run

open Idealize.ShloMosaic Cert.ReferenceIdeal Cert.Reals Cert.Tables
open scoped BigOperators

set_option maxHeartbeats 4000000

/-- A linear layer at an index. -/
theorem linear_read (x : FArr S1x2048x1024) (w : FArr S1024x1024) (b : FArr S1024) (l : Fin 2048) (n : Fin 1024) :
    linear x w b (ix3 0 l n) = ∑ c, x (ix3 0 l c) * w (ix2 n c) + b (ix1 n) := by pointwise [linear]

/-- A linear layer of real arguments. -/
theorem linear_at (x : FArr S1x2048x1024) (w : FArr S1024x1024) (b : FArr S1024)
    (X : Fin 2048 → Fin 1024 → ℝ) (W : Fin 1024 → Fin 1024 → ℝ) (B : Fin 1024 → ℝ)
    (hx : ∀ l c, x (ix3 0 l c) = ((X l c : ℝ) : EReal)) (hw : ∀ n c, w (ix2 n c) = ((W n c : ℝ) : EReal))
    (hb : ∀ n, b (ix1 n) = ((B n : ℝ) : EReal)) (l : Fin 2048) (n : Fin 1024) :
    linear x w b (ix3 0 l n) = ((∑ c, X l c * W n c + B n : ℝ) : EReal) := by
  rw [linear_read, hb, EReal.coe_add, ← dot_coe]
  simp only [hx, hw]

/-- A head's entry is the sequence's at the head's column. -/
theorem heads_at (y : FArr S1x2048x1024) (h : Fin 16) (l : Fin 2048) (d : Fin 64) :
    heads y (ix4 0 h l d) = y (ix3 0 l ⟨h.val * 64 + d.val, by omega⟩) := by
  pointwise [heads]

/-- The sampled row numbers. -/
theorem table_at (s : Fin 4096) : table (ix1 s) = BitVec.ofNat 32 (row s).val := by
  have e : S4096.rowMajor (ix1 s) = s := Fin.ext (Shape.rowMajor_val_one _)
  have e2 : table (ix1 s) = lit0t s.val := by
    show lit0 (S4096.rowMajor (ix1 s)) = lit0t s.val
    rw [e]
  rw [e2]
  show lit0t s.val = BitVec.ofNat 32 (lit0t s.val).toNat
  exact BitVec.eq_of_toNat_eq (by rw [BitVec.toNat_ofNat, Nat.mod_eq_of_lt (BitVec.isLt _)])

/-- A small word is not negative. -/
theorem not_neg (n : ℕ) (h : n < 2048) (a b : BitVec 32) :
    Scalar.select (IntOp.cmpi .slt (BitVec.ofNat 32 n) 0#32) a b = b := by
  have : (BitVec.ofNat 32 n).toInt = (n : ℤ) := by
    rw [BitVec.toInt_eq_toNat_of_lt (by rw [BitVec.toNat_ofNat]; omega), BitVec.toNat_ofNat]; omega
  have e : IntOp.cmpi .slt (BitVec.ofNat 32 n) 0#32 = 0#1 :=
    congrArg BitVec.ofBool (decide_eq_false (p := (BitVec.ofNat 32 n).toInt < (0#32).toInt) (by rw [this]; simp))
  rw [e]; rfl

theorem sample_at (s : Fin 4096) : sample (ix2 s 0) = BitVec.ofNat 32 (row s).val := by
  have h : sample (ix2 s 0) = Scalar.select (IntOp.cmpi .slt (table (ix1 s)) 0#32)
      (IntOp.addi (table (ix1 s)) 2048#32) (table (ix1 s)) := by pointwise [sample]
  rw [h, table_at, not_neg _ (row s).isLt]

/-- A sampled product of real heads. -/
theorem sampledDots_at (q k : FArr S1x16x2048x64) (Q K : Fin 2048 → Fin 64 → ℝ) (h : Fin 16)
    (hq : ∀ l d, q (ix4 0 h l d) = ((Q l d : ℝ) : EReal)) (hk : ∀ l d, k (ix4 0 h l d) = ((K l d : ℝ) : EReal))
    (l : Fin 2048) (s : Fin 4096) :
    sampledDots q k (ix4 0 h l s) = (((∑ d, Q l d * K (row s) d) / 8 : ℝ) : EReal) := by
  have e : sampledDots q k (ix4 0 h l s) = Ideal.div (∑ d, q (ix4 0 h l d)
      * Host.gather gather_S1x16x2048x64_S4096x1_S1x16x4096x64_013_2_n_n_2_1_116164 k sample (ix4 0 h s d))
      (Ideal.ofBits .f32 0x41000000#32) := by pointwise [sampledDots]
  rw [e, ofBits_eight, ← div_coe _ _ (by norm_num), ← dot_coe]
  simp only [gather_rows k sample h s _ (row s) (sample_at s), hq, hk]

/-- The largest of a real row, minus infinity being where the maximum starts. -/
theorem max_last {A B C D : ℕ} [NeZero D] (g : (⟨4, ![A, B, C, D]⟩ : Shape).ReducesTo [3] ⟨3, ![A, B, C]⟩)
    (z : FArr ⟨4, ![A, B, C, D]⟩) (a : Fin A) (b : Fin B) (c : Fin C) (Z : Fin D → ℝ)
    (hz : ∀ k, z (ix4 a b c k) = ((Z k : ℝ) : EReal)) :
    Host.reduce FloatOps.maximumf z (constant (F := Ideal) S_ .f32 0xFF800000#32) g Facts₀.h_S_ (ix3 a b c)
      = ((top Z : ℝ) : EReal) := by
  rw [Host.reduce_eq_fold, Shape.ReducesTo.fold_fiber_r4_a3, ← fold_max_coe]
  have e : (fun k => ((Z k : ℝ) : EReal)) = fun k => z (ix4 a b c k) := funext fun k => (hz k).symm
  rw [e, ← ofBits_negInf]
  rfl

/-- The sum of a real row. -/
theorem sum_last {A B C D : ℕ} (g : (⟨4, ![A, B, C, D]⟩ : Shape).ReducesTo [3] ⟨3, ![A, B, C]⟩)
    (z : FArr ⟨4, ![A, B, C, D]⟩) (a : Fin A) (b : Fin B) (c : Fin C) (Z : Fin D → ℝ)
    (hz : ∀ k, z (ix4 a b c k) = ((Z k : ℝ) : EReal)) :
    Host.reduceAdd z (constant (F := Ideal) S_ .f32 0x00000000#32) g Facts₀.h_S_ (ix3 a b c)
      = ((∑ k, Z k : ℝ) : EReal) := by
  have e : Host.reduceAdd z (constant (F := Ideal) S_ .f32 0x00000000#32) g Facts₀.h_S_ (ix3 a b c)
      = Ideal.ofBits .f32 0x00000000#32 + ∑ k, z (ix4 a b c k) := Ideal.hostReduceAdd_r4_a3 g z _ _
  rw [e, Ideal.ofBits_zero_f32, zero_add, ← sum_coe]
  exact Finset.sum_congr rfl fun k _ => hz k

/-- A measure from its row maxima and row sums. -/
theorem measure_read (x y : FArr S1x16x2048) (j : S1x16x2048.Idx) :
    subf x (Host.divf y (broadcastInDim S1x16x2048 ![] Facts₀.bcast_S_S1x16x2048 (constant S_ .f32 0x45800000#32))) j
      = x j - Ideal.div (y j) (Ideal.ofBits .f32 0x45800000#32) := rfl

/-- The measure of a query of real heads. -/
theorem measure_at (q k : FArr S1x16x2048x64) (Q K : Fin 2048 → Fin 64 → ℝ) (h : Fin 16)
    (hq : ∀ l d, q (ix4 0 h l d) = ((Q l d : ℝ) : EReal)) (hk : ∀ l d, k (ix4 0 h l d) = ((K l d : ℝ) : EReal))
    (l : Fin 2048) :
    measure q k (ix3 0 h l) = ((top (fun s => (∑ d, Q l d * K (row s) d) / 8)
      - (∑ s, (∑ d, Q l d * K (row s) d) / 8) / 4096 : ℝ) : EReal) := by
  have hz := sampledDots_at q k Q K h hq hk l
  unfold measure
  generalize sampledDots q k = z at hz
  rw [measure_read, max_last _ z 0 h l _ hz, sum_last _ z 0 h l _ hz, ofBits_4096, div_coe _ _ (by norm_num), EReal.coe_sub]

/-- The index triple of a head's chosen query. -/
theorem place_at (u : IArr S1x16) (h : Fin 16) (m : Fin 2048) (hu : u (ix2 0 h) = BitVec.ofNat 32 m.val) :
    place batchIx headIx (rowIx u) (ix4 0 h 0 0) = 0#32 ∧ place batchIx headIx (rowIx u) (ix4 0 h 0 1) = BitVec.ofNat 32 h.val
      ∧ place batchIx headIx (rowIx u) (ix4 0 h 0 2) = BitVec.ofNat 32 m.val := by
  have p0 : ∀ a b c, place a b c (ix4 0 h 0 0) = a (ix4 0 h 0 0) := fun a b c => by pointwise [place]
  have p1 : ∀ a b c, place a b c (ix4 0 h 0 1) = b (ix4 0 h 0 0) := fun a b c => by pointwise [place]
  have p2 : ∀ a b c, place a b c (ix4 0 h 0 2) = c (ix4 0 h 0 0) := fun a b c => by pointwise [place]
  have b0 : batchIx (ix4 0 h 0 0) = Scalar.select (IntOp.cmpi .slt (BitVec.ofNat 32 0) 0#32)
      (IntOp.addi (BitVec.ofNat 32 0) 1#32) (BitVec.ofNat 32 0) := by pointwise [batchIx]
  have b1 : headIx (ix4 0 h 0 0) = Scalar.select (IntOp.cmpi .slt (BitVec.ofNat 32 h.val) 0#32)
      (IntOp.addi (BitVec.ofNat 32 h.val) 16#32) (BitVec.ofNat 32 h.val) := by pointwise [headIx]
  have b2 : rowIx u (ix4 0 h 0 0) = Scalar.select (IntOp.cmpi .slt (u (ix2 0 h)) 0#32)
      (IntOp.addi (u (ix2 0 h)) 2048#32) (u (ix2 0 h)) := by pointwise [rowIx]
  rw [p0, p1, p2, b0, b1, b2, hu, not_neg _ (by omega), not_neg _ (by omega), not_neg _ m.isLt]
  exact ⟨rfl, rfl, rfl⟩

/-- A head's logits, once its chosen query is known. -/
theorem logits_at (q k : FArr S1x16x2048x64) (Q K : Fin 2048 → Fin 64 → ℝ) (h : Fin 16)
    (hq : ∀ l d, q (ix4 0 h l d) = ((Q l d : ℝ) : EReal)) (hk : ∀ l d, k (ix4 0 h l d) = ((K l d : ℝ) : EReal))
    (i : IArr S1x16x1x3) (m : Fin 2048)
    (hi : i (ix4 0 h 0 0) = 0#32 ∧ i (ix4 0 h 0 1) = BitVec.ofNat 32 h.val ∧ i (ix4 0 h 0 2) = BitVec.ofNat 32 m.val)
    (s : Fin 2048) :
    logits q k i (ix4 0 h 0 s) = (((∑ d, Q m d * K s d) / 8 : ℝ) : EReal) := by
  have e : logits q k i (ix4 0 h 0 s) = Ideal.div (∑ d,
      Host.gather gather_S1x16x2048x64_S1x16x1x3_S1x16x1x64_3_012_n_n_012_3_11164 q i (ix4 0 h 0 d) * k (ix4 0 h s d))
      (Ideal.ofBits .f32 0x41000000#32) := by pointwise [logits]
  rw [e, ofBits_eight, ← div_coe _ _ (by norm_num), ← dot_coe]
  simp only [gather_row q i h _ m hi.1 hi.2.1 hi.2.2, hq, hk]

/-- The exponentials of real logits. -/
theorem expos_at (z : FArr S1x16x1x2048) (h : Fin 16) (Z : Fin 2048 → ℝ)
    (hz : ∀ s, z (ix4 0 h 0 s) = ((Z s : ℝ) : EReal)) (s : Fin 2048) :
    expos z (ix4 0 h 0 s) = ((Real.exp (Z s - top Z) : ℝ) : EReal) := by
  have e : expos z (ix4 0 h 0 s) = Ideal.exp (z (ix4 0 h 0 s) - max (Ideal.ofBits .f32 0xFF800000#32)
      (Finset.univ.fold max (Ideal.ofBits .f32 0xFF800000#32) fun x => z (ix4 0 h 0 x))) := by pointwise [expos]
  have e2 : (fun x => z (ix4 0 h 0 x)) = fun x => ((Z x : ℝ) : EReal) := funext hz
  rw [e, e2, ofBits_negInf, fold_max_coe, hz, max_eq_right bot_le, ← EReal.coe_sub, Ideal.exp_coe]

/-- The softmax weights of real exponentials. -/
theorem weights_at (z : FArr S1x16x1x2048) (h : Fin 16) (Z : Fin 2048 → ℝ)
    (hz : ∀ s, z (ix4 0 h 0 s) = ((Z s : ℝ) : EReal)) (h0 : ∑ s, Z s ≠ 0) (s : Fin 2048) :
    weights z (ix4 0 h 0 s) = ((Z s / ∑ x, Z x : ℝ) : EReal) := by
  have e : weights z (ix4 0 h 0 s) = Ideal.div (z (ix4 0 h 0 s)) (∑ x, z (ix4 0 h 0 x)) := by pointwise [weights]
  rw [e, hz, ← div_coe _ _ h0, ← sum_coe]
  simp only [hz]

/-- The context, at a column of a head. -/
theorem context_read (p : FArr S1x16x1x2048) (v : FArr S1x16x2048x64) (l : Fin 2048) (n : Fin 1024) :
    context p v (ix3 0 l n) = ∑ s, p (ix4 0 ⟨n.val / 64, by omega⟩ 0 s)
      * v (ix4 0 ⟨n.val / 64, by omega⟩ s ⟨n.val % 64, by omega⟩) := by pointwise [context]

theorem mixed_at (y : FArr S1x2048x1024) (l : Fin 2048) (n : Fin 1024) : mixed y (ix2 l n) = y (ix3 0 l n) := by
  pointwise [mixed]

end Cert.ReferenceIdeal.Run
-- ==== Proof.RefResult.lean ====
/-
  The reference's result over real arguments, the output layer and the bias of the values being arbitrary, is the layer's output row, in every row.
-/
module

public import proofs.«01_k».proof.Proof.RefVal
public import proofs.«01_k».proof.Proof.Spec

@[expose] public section

set_option maxRecDepth 16384

noncomputable section

namespace Cert.ReferenceIdeal.Run

open Idealize.ShloMosaic Cert.ReferenceIdeal Cert.Reals Cert.Tables Cert.Spec
open scoped BigOperators

/-- One head of a projection of real arguments. -/
theorem heads_linear_at (x : FArr S1x2048x1024) (w : FArr S1024x1024) (b : FArr S1024)
    (X : Fin 2048 → Fin 1024 → ℝ) (W : Fin 1024 → Fin 1024 → ℝ) (B : Fin 1024 → ℝ)
    (hx : ∀ l c, x (ix3 0 l c) = ((X l c : ℝ) : EReal)) (hw : ∀ n c, w (ix2 n c) = ((W n c : ℝ) : EReal))
    (hb : ∀ n, b (ix1 n) = ((B n : ℝ) : EReal)) (h : Fin 16) (l : Fin 2048) (d : Fin 64) :
    heads (linear x w b) (ix4 0 h l d) = ((head X W B h l d : ℝ) : EReal) := by
  rw [heads_at, linear_at x w b X W B hx hw hb]; rfl

/-- One head of the values: real arguments, with any bias. -/
theorem heads_values_at (x : FArr S1x2048x1024) (w : FArr S1024x1024) (b : FArr S1024)
    (X : Fin 2048 → Fin 1024 → ℝ) (W : Fin 1024 → Fin 1024 → ℝ) (B : Fin 1024 → EReal)
    (hx : ∀ l c, x (ix3 0 l c) = ((X l c : ℝ) : EReal)) (hw : ∀ n c, w (ix2 n c) = ((W n c : ℝ) : EReal))
    (hb : ∀ n, b (ix1 n) = B n) (h : Fin 16) (l : Fin 2048) (d : Fin 64) :
    heads (linear x w b) (ix4 0 h l d) = ((head X W (fun _ => 0) h l d : ℝ) : EReal) + B (col h d) := by
  rw [heads_at, linear_read, hb]
  refine congrArg (· + B (col h d)) ?_
  unfold head proj
  rw [add_zero, ← dot_coe]
  exact Finset.sum_congr rfl fun c _ => congrArg₂ (· * ·) (hx l c) (hw _ c)

/-- The chosen query of real heads. -/
theorem best_measure_at (q k : FArr S1x16x2048x64) (Q K : Fin 2048 → Fin 64 → ℝ) (h : Fin 16)
    (hq : ∀ l d, q (ix4 0 h l d) = ((Q l d : ℝ) : EReal)) (hk : ∀ l d, k (ix4 0 h l d) = ((K l d : ℝ) : EReal)) :
    best (measure q k) (ix2 0 h) = BitVec.ofNat 32 (pick Q K).val := by
  refine best_at _ h _ (measure_at q k Q K h hq hk) (pick Q K)
    ((pick_isFirst Q K).scale (1 / 8) (by norm_num) fun l => ?_)
  have e : top (fun s => (∑ d, Q l d * K (row s) d) / 8) = top (fun s => ∑ d, Q l d * K (row s) d) / 8 := by
    obtain ⟨i, hi⟩ := exists_top fun s => ∑ d, Q l d * K (row s) d
    exact eq_top _ _ (fun s => div_le_div_of_nonneg_right (le_top (fun s => ∑ d, Q l d * K (row s) d) s) (by norm_num)) i
      (by rw [← hi])
  rw [e, ← Finset.sum_div]
  unfold gain
  ring

/-- The result over real arguments. -/
theorem result_at (x : FArr S1x2048x1024) (wq wk wv wo : FArr S1024x1024) (bq bk bv bo : FArr S1024)
    (X : Fin 2048 → Fin 1024 → ℝ) (Wq Wk Wv : Fin 1024 → Fin 1024 → ℝ) (Wo : Fin 1024 → Fin 1024 → EReal)
    (Bq Bk : Fin 1024 → ℝ) (Bv Bo : Fin 1024 → EReal)
    (hx : ∀ l c, x (ix3 0 l c) = ((X l c : ℝ) : EReal))
    (hwq : ∀ n c, wq (ix2 n c) = ((Wq n c : ℝ) : EReal)) (hbq : ∀ n, bq (ix1 n) = ((Bq n : ℝ) : EReal))
    (hwk : ∀ n c, wk (ix2 n c) = ((Wk n c : ℝ) : EReal)) (hbk : ∀ n, bk (ix1 n) = ((Bk n : ℝ) : EReal))
    (hwv : ∀ n c, wv (ix2 n c) = ((Wv n c : ℝ) : EReal)) (hbv : ∀ n, bv (ix1 n) = Bv n)
    (hwo : ∀ n c, wo (ix2 n c) = Wo n c) (hbo : ∀ n, bo (ix1 n) = Bo n)
    (l : Fin 2048) (n : Fin 1024) :
    result x wq bq wk bk wv bv wo bo (ix2 l n) = out X Wq Wk Wv Wo Bq Bk Bv Bo n := by
  have hq := heads_linear_at x wq bq X Wq Bq hx hwq hbq
  have hk := heads_linear_at x wk bk X Wk Bk hx hwk hbk
  have hv := heads_values_at x wv bv X Wv Bv hx hwv hbv
  unfold result
  generalize heads (linear x wq bq) = q at hq ⊢
  generalize heads (linear x wk bk) = k at hk ⊢
  generalize heads (linear x wv bv) = v at hv ⊢
  have hi := fun h => place_at (best (measure q k)) h _ (best_measure_at q k _ _ h (hq h) (hk h))
  generalize place batchIx headIx (rowIx (best (measure q k))) = i at hi ⊢
  unfold tail
  have hz := fun h => logits_at q k _ _ h (hq h) (hk h) i _ (hi h)
  generalize logits q k i = z at hz ⊢
  have he := fun h => expos_at z h _ (hz h)
  generalize expos z = e at he ⊢
  have hw := fun h => weights_at e h _ (he h) (sum_expo_ne (score (head X Wq Bq h) (head X Wk Bk h)))
  generalize weights e = w at hw ⊢
  have hc : ∀ a b, context w v (ix3 0 a b) = headCtx X Wq Wk Wv Bq Bk Bv ⟨b.val / 64, by omega⟩ ⟨b.val % 64, by omega⟩ :=
    fun a b => by
      rw [context_read]
      unfold headCtx ctx
      rw [← soft_bias]
      exact Finset.sum_congr rfl fun s _ => congrArg₂ (· * ·) (hw _ s) (hv _ s _)
  generalize context w v = c at hc ⊢
  rw [mixed_at, linear_read, hbo]
  unfold out
  exact congrArg (· + Bo n) (Finset.sum_congr rfl fun b _ => congrArg₂ (· * ·) (hc l b) (hwo n b))

end Cert.ReferenceIdeal.Run
-- ==== Proof.lean ====
/-
  The proof of `Cert.Claim`: the three programs run and leave their arguments as they were, the kernel read in the ideal
  instance is the kernel, and on bounded arguments the ideal kernel computes what the reference computes.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Bounded
public import proofs.«01_k».proof.Proof.KernelResult
public import proofs.«01_k».proof.Proof.RefRun
public import proofs.«01_k».proof.Proof.RefResult
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

instance : Cert.Pre_bounded.Facts := Cert.Bounded.facts

/-- On bounded arguments the kernel's array is the reference's. -/
theorem arrays_eq (m : (ℓ : Loc Cert.KernelIdeal.nD Cert.KernelIdeal.τ Cert.KernelIdeal.sig) → Buf (Elt Ideal) ℓ)
    (hpre : Cert.Pre_KernelIdeal_bounded m) (c : Dev Cert.KernelIdeal.nD) :
    Cert.ReferenceIdeal.Run.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      = Cert.KernelIdeal.Value.G11 m c := by
  obtain ⟨⟨R0, e0, b0⟩, ⟨R1, e1, b1⟩, ⟨R2, e2, b2⟩, ⟨R3, e3, b3⟩, ⟨R4, e4, b4⟩, ⟨R5, e5⟩⟩ := Cert.Bounded.reals _ _ _ _ _ _ _ _ _ (hpre c)
  funext i
  obtain ⟨l, n, rfl⟩ : ∃ (l : Fin 2048) (n : Fin 1024), i = ix2 l n := ⟨i 0, i 1, eq_ix2 i⟩
  exact (Cert.ReferenceIdeal.Run.result_at _ _ _ _ _ _ _ _ _ (fun l k => R0 (ix3 0 l k)) (fun n k => R1 (ix2 n k))
    (fun n k => R3 (ix2 n k)) (fun n k => R5 (ix2 n k)) _ (fun n => R2 (ix1 n)) (fun n => R4 (ix1 n)) _ _ (fun _ _ => e0 _) (fun _ _ => e1 _) (fun _ => e2 _) (fun _ _ => e3 _)
    (fun _ => e4 _) (fun _ _ => e5 _) (fun _ => rfl) (fun _ _ => rfl) (fun _ => rfl) l n).trans
    (Cert.KernelIdeal.Sweep.result_at m c (fun l k => R0 (ix3 0 l k)) (fun n k => R1 (ix2 n k))
    (fun n k => R3 (ix2 n k)) (fun n k => R5 (ix2 n k)) _ (fun n => R2 (ix1 n)) (fun n => R4 (ix1 n)) _ _ (fun _ _ => e0 _) (fun _ _ => e1 _) (fun _ => e2 _) (fun _ _ => e3 _)
    (fun _ => e4 _) (fun _ _ => e5 _) (fun _ => rfl) (fun _ _ => rfl) (fun _ => rfl) (fun _ _ => b0 _) (fun _ _ => b1 _)
    (fun _ => b2 _) (fun _ _ => b3 _) (fun _ => b4 _) l n).symm

/-- The reference runs, leaves its arguments as they were, and every counter ends at zero. -/
theorem frame_reference : Cert.quiescent_ReferenceIdeal := fun m g _ =>
  θ_run_mono (Cert.ReferenceIdeal.Run.run m g) fun r h => ⟨fun c => (h c).2, sem_eq_zero_of_no_sems rfl _⟩

/-- The ideal kernel and the reference end with the same array. -/
theorem algebraic : Cert.algebraic_KernelIdeal_ReferenceIdeal_pre_bounded := fun m g m' g' hpre hagree =>
  ⟨fun c => Cert.KernelIdeal.Value.G11 m c, Cert.KernelIdeal.Value.run m g,
    θ_run_mono (Cert.ReferenceIdeal.Run.run m' g') fun r h c => by
      obtain ⟨a0, a1, a2, a3, a4, a5, a6, a7, a8⟩ := hagree c
      refine ⟨(h c).1.trans ?_, (h c).2⟩
      rw [a0, a1, a2, a3, a4, a5, a6, a7, a8]
      exact arrays_eq m hpre c⟩

theorem claim : Cert.Claim := ⟨Cert.Kernel.Gen.facts, Cert.KernelIdeal.Gen.facts, Cert.ReferenceIdeal.Gen.facts, Cert.Bounded.facts,
  fun m ρ _ => Cert.Kernel.Gen.frame m ρ, fun m ρ _ => Cert.KernelIdeal.Gen.frame m ρ, fun m ρ _ => Cert.KernelIdeal.Gen.frame m ρ,
  frame_reference, fun m g _ => frame_reference m g trivial, trivial, algebraic⟩

end Cert.Proof

end
